-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4000x257 : Shape := ⟨3, ![32, 4000, 257]⟩
abbrev S32x4000x80 : Shape := ⟨3, ![32, 4000, 80]⟩
abbrev S_ : Shape := ⟨0, ![]⟩
abbrev S513 : Shape := ⟨1, ![513]⟩
abbrev S257 : Shape := ⟨1, ![257]⟩
abbrev S513x1 : Shape := ⟨2, ![513, 1]⟩
abbrev S1x257 : Shape := ⟨2, ![1, 257]⟩
abbrev S513x257 : Shape := ⟨2, ![513, 257]⟩
abbrev S32x8x500x257 : Shape := ⟨4, ![32, 8, 500, 257]⟩
abbrev S8x32x257x500 : Shape := ⟨4, ![8, 32, 257, 500]⟩
abbrev S32x8x500x80 : Shape := ⟨4, ![32, 8, 500, 80]⟩
abbrev S8x32x80x500 : Shape := ⟨4, ![8, 32, 80, 500]⟩
abbrev S32x4008x257 : Shape := ⟨3, ![32, 4008, 257]⟩
abbrev S32x8x8x257 : Shape := ⟨4, ![32, 8, 8, 257]⟩
abbrev S8x32x257x8 : Shape := ⟨4, ![8, 32, 257, 8]⟩
abbrev S32x4008x80 : Shape := ⟨3, ![32, 4008, 80]⟩
abbrev S32x8x8x80 : Shape := ⟨4, ![32, 8, 8, 80]⟩
abbrev S8x32x80x8 : Shape := ⟨4, ![8, 32, 80, 8]⟩
abbrev S32x8x80x500 : Shape := ⟨4, ![32, 8, 80, 500]⟩
abbrev S1x1x257x500 : Shape := ⟨4, ![1, 1, 257, 500]⟩
abbrev S1x1x257x8 : Shape := ⟨4, ![1, 1, 257, 8]⟩
abbrev S1x1x80x500 : Shape := ⟨4, ![1, 1, 80, 500]⟩
abbrev S1x1x80x8 : Shape := ⟨4, ![1, 1, 80, 8]⟩
abbrev S257x8 : Shape := ⟨2, ![257, 8]⟩
abbrev S257x500 : Shape := ⟨2, ![257, 500]⟩
abbrev S257x508 : Shape := ⟨2, ![257, 508]⟩
abbrev S80x8 : Shape := ⟨2, ![80, 8]⟩
abbrev S80x500 : Shape := ⟨2, ![80, 500]⟩
abbrev S80x508 : Shape := ⟨2, ![80, 508]⟩
abbrev S513x508 : Shape := ⟨2, ![513, 508]⟩
abbrev S7x508 : Shape := ⟨2, ![7, 508]⟩
abbrev S520x508 : Shape := ⟨2, ![520, 508]⟩
abbrev S1x508 : Shape := ⟨2, ![1, 508]⟩
abbrev S72x508 : Shape := ⟨2, ![72, 508]⟩
abbrev S592x508 : Shape := ⟨2, ![592, 508]⟩
abbrev S8x508 : Shape := ⟨2, ![8, 508]⟩
abbrev S528x508 : Shape := ⟨2, ![528, 508]⟩
abbrev S64x508 : Shape := ⟨2, ![64, 508]⟩
abbrev S16x508 : Shape := ⟨2, ![16, 508]⟩
abbrev S536x508 : Shape := ⟨2, ![536, 508]⟩
abbrev S56x508 : Shape := ⟨2, ![56, 508]⟩
abbrev S24x508 : Shape := ⟨2, ![24, 508]⟩
abbrev S544x508 : Shape := ⟨2, ![544, 508]⟩
abbrev S48x508 : Shape := ⟨2, ![48, 508]⟩
abbrev S32x508 : Shape := ⟨2, ![32, 508]⟩
abbrev S552x508 : Shape := ⟨2, ![552, 508]⟩
abbrev S40x508 : Shape := ⟨2, ![40, 508]⟩
abbrev S560x508 : Shape := ⟨2, ![560, 508]⟩
abbrev S568x508 : Shape := ⟨2, ![568, 508]⟩
abbrev S576x508 : Shape := ⟨2, ![576, 508]⟩
abbrev S584x508 : Shape := ⟨2, ![584, 508]⟩
abbrev S593x508 : Shape := ⟨2, ![593, 508]⟩
abbrev S2x508 : Shape := ⟨2, ![2, 508]⟩
abbrev S594x508 : Shape := ⟨2, ![594, 508]⟩
abbrev S3x508 : Shape := ⟨2, ![3, 508]⟩
abbrev S595x508 : Shape := ⟨2, ![595, 508]⟩
abbrev S4x508 : Shape := ⟨2, ![4, 508]⟩
abbrev S596x508 : Shape := ⟨2, ![596, 508]⟩
abbrev S5x508 : Shape := ⟨2, ![5, 508]⟩
abbrev S597x508 : Shape := ⟨2, ![597, 508]⟩
abbrev S6x508 : Shape := ⟨2, ![6, 508]⟩
abbrev S598x508 : Shape := ⟨2, ![598, 508]⟩
abbrev S599x508 : Shape := ⟨2, ![599, 508]⟩
abbrev S32x500 : Shape := ⟨2, ![32, 500]⟩
abbrev S48x500 : Shape := ⟨2, ![48, 500]⟩
abbrev S32x320000 : Shape := ⟨2, ![32, 320000]⟩

abbrev nBuf : Space → Nat
  | .hbm => 74
  | .vmem => 11
  | .smem => 0
  | _ => 0

abbrev bufTy : (tb : Table) → Fin (tcTables nBuf tb) → BufTy
  | .hbm, ⟨0, _⟩ => ⟨S32x4000x257, .f32⟩
  | .hbm, ⟨1, _⟩ => ⟨S32x4000x80, .f32⟩
  | .hbm, ⟨2, _⟩ => ⟨S_, .f32⟩
  | .hbm, ⟨3, _⟩ => ⟨S_, .f32⟩
  | .hbm, ⟨4, _⟩ => ⟨S513, .f32⟩
  | .hbm, ⟨5, _⟩ => ⟨S257, .f32⟩
  | .hbm, ⟨6, _⟩ => ⟨S_, .f32⟩
  | .hbm, ⟨7, _⟩ => ⟨S257, .f32⟩
  | .hbm, ⟨8, _⟩ => ⟨S257, .i1⟩
  | .hbm, ⟨9, _⟩ => ⟨S_, .f32⟩
  | .hbm, ⟨10, _⟩ => ⟨S_, .f32⟩
  | .hbm, ⟨11, _⟩ => ⟨S257, .f32⟩
  | .hbm, ⟨12, _⟩ => ⟨S257, .f32⟩
  | .hbm, ⟨13, _⟩ => ⟨S257, .f32⟩
  | .hbm, ⟨14, _⟩ => ⟨S_, .f32⟩
  | .hbm, ⟨15, _⟩ => ⟨S_, .f32⟩
  | .hbm, ⟨16, _⟩ => ⟨S513, .f32⟩
  | .hbm, ⟨17, _⟩ => ⟨S513, .f32⟩
  | .hbm, ⟨18, _⟩ => ⟨S_, .f32⟩
  | .hbm, ⟨19, _⟩ => ⟨S513, .f32⟩
  | .hbm, ⟨20, _⟩ => ⟨S513, .f32⟩
  | .hbm, ⟨21, _⟩ => ⟨S513, .f32⟩
  | .hbm, ⟨22, _⟩ => ⟨S_, .f32⟩
  | .hbm, ⟨23, _⟩ => ⟨S513, .f32⟩
  | .hbm, ⟨24, _⟩ => ⟨S513, .f32⟩
  | .hbm, ⟨25, _⟩ => ⟨S_, .f32⟩
  | .hbm, ⟨26, _⟩ => ⟨S513, .f32⟩
  | .hbm, ⟨27, _⟩ => ⟨S513, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S513, .f32⟩
  | .hbm, ⟨34, _⟩ => ⟨S513, .f32⟩
  | .hbm, ⟨35, _⟩ => ⟨S513x1, .f32⟩
  | .hbm, ⟨36, _⟩ => ⟨S1x257, .f32⟩
  | .hbm, ⟨37, _⟩ => ⟨S513x257, .f32⟩
  | .hbm, ⟨38, _⟩ => ⟨S513x257, .f32⟩
  | .hbm, ⟨39, _⟩ => ⟨S513x257, .f32⟩
  | .hbm, ⟨40, _⟩ => ⟨S513x257, .f32⟩
  | .hbm, ⟨41, _⟩ => ⟨S513x257, .f32⟩
  | .hbm, ⟨42, _⟩ => ⟨S513x257, .f32⟩
  | .hbm, ⟨43, _⟩ => ⟨S_, .f32⟩
  | .hbm, ⟨44, _⟩ => ⟨S257, .f32⟩
  | .hbm, ⟨45, _⟩ => ⟨S257, .f32⟩
  | .hbm, ⟨46, _⟩ => ⟨S1x257, .f32⟩
  | .hbm, ⟨47, _⟩ => ⟨S1x257, .f32⟩
  | .hbm, ⟨48, _⟩ => ⟨S513x257, .f32⟩
  | .hbm, ⟨49, _⟩ => ⟨S513x257, .f32⟩
  | .hbm, ⟨50, _⟩ => ⟨S513x1, .f32⟩
  | .hbm, ⟨51, _⟩ => ⟨S513x257, .f32⟩
  | .hbm, ⟨52, _⟩ => ⟨S513x257, .f32⟩
  | .hbm, ⟨53, _⟩ => ⟨S32x8x500x257, .f32⟩
  | .hbm, ⟨54, _⟩ => ⟨S8x32x257x500, .f32⟩
  | .hbm, ⟨55, _⟩ => ⟨S32x8x500x80, .f32⟩
  | .hbm, ⟨56, _⟩ => ⟨S8x32x80x500, .f32⟩
  | .hbm, ⟨57, _⟩ => ⟨S_, .i32⟩
  | .hbm, ⟨58, _⟩ => ⟨S_, .f32⟩
  | .hbm, ⟨59, _⟩ => ⟨S32x4008x257, .f32⟩
  | .hbm, ⟨60, _⟩ => ⟨S32x4000x257, .f32⟩
  | .hbm, ⟨61, _⟩ => ⟨S32x8x500x257, .f32⟩
  | .hbm, ⟨62, _⟩ => ⟨S32x8x8x257, .f32⟩
  | .hbm, ⟨63, _⟩ => ⟨S8x32x257x8, .f32⟩
  | .hbm, ⟨64, _⟩ => ⟨S_, .i32⟩
  | .hbm, ⟨65, _⟩ => ⟨S_, .f32⟩
  | .hbm, ⟨66, _⟩ => ⟨S32x4008x80, .f32⟩
  | .hbm, ⟨67, _⟩ => ⟨S32x4000x80, .f32⟩
  | .hbm, ⟨68, _⟩ => ⟨S32x8x500x80, .f32⟩
  | .hbm, ⟨69, _⟩ => ⟨S32x8x8x80, .f32⟩
  | .hbm, ⟨70, _⟩ => ⟨S8x32x80x8, .f32⟩
  | .hbm, ⟨71, _⟩ => ⟨S32x8x80x500, .f32⟩
  | .hbm, ⟨72, _⟩ => ⟨S32x8x500x80, .f32⟩
  | .hbm, ⟨73, _⟩ => ⟨S32x320000, .f32⟩
  | .local _ .vmem, ⟨0, _⟩ => ⟨S513x257, .f32⟩
  | .local _ .vmem, ⟨1, _⟩ => ⟨S1x1x257x500, .f32⟩
  | .local _ .vmem, ⟨2, _⟩ => ⟨S1x1x257x500, .f32⟩
  | .local _ .vmem, ⟨3, _⟩ => ⟨S1x1x257x8, .f32⟩
  | .local _ .vmem, ⟨4, _⟩ => ⟨S1x1x257x8, .f32⟩
  | .local _ .vmem, ⟨5, _⟩ => ⟨S1x1x80x500, .f32⟩
  | .local _ .vmem, ⟨6, _⟩ => ⟨S1x1x80x500, .f32⟩
  | .local _ .vmem, ⟨7, _⟩ => ⟨S1x1x80x8, .f32⟩
  | .local _ .vmem, ⟨8, _⟩ => ⟨S1x1x80x8, .f32⟩
  | .local _ .vmem, ⟨9, _⟩ => ⟨S1x1x80x500, .f32⟩
  | .local _ .vmem, ⟨10, _⟩ => ⟨S1x1x80x500, .f32⟩
  | _, _ => ⟨S32x4000x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_call1_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_call2_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S513x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x257x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x257x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x80x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x80x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x80x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x4000x257 : Shape := ⟨3, ![32, 4000, 257]⟩
abbrev S32x4000x80 : Shape := ⟨3, ![32, 4000, 80]⟩
abbrev S_ : Shape := ⟨0, ![]⟩
abbrev S513 : Shape := ⟨1, ![513]⟩
abbrev S256 : Shape := ⟨1, ![256]⟩
abbrev S513x1 : Shape := ⟨2, ![513, 1]⟩
abbrev S1x256 : Shape := ⟨2, ![1, 256]⟩
abbrev S513x256 : Shape := ⟨2, ![513, 256]⟩
abbrev S32x4000x1 : Shape := ⟨3, ![32, 4000, 1]⟩
abbrev S32x4000x256 : Shape := ⟨3, ![32, 4000, 256]⟩
abbrev S32x4000x513 : Shape := ⟨3, ![32, 4000, 513]⟩
abbrev S1x1x513 : Shape := ⟨3, ![1, 1, 513]⟩
abbrev S32x4000x80x1 : Shape := ⟨4, ![32, 4000, 80, 1]⟩
abbrev S32x4000x1x513 : Shape := ⟨4, ![32, 4000, 1, 513]⟩
abbrev S32x4000x80x513 : Shape := ⟨4, ![32, 4000, 80, 513]⟩
abbrev S80 : Shape := ⟨1, ![80]⟩
abbrev S80x1 : Shape := ⟨2, ![80, 1]⟩
abbrev S1x513 : Shape := ⟨2, ![1, 513]⟩
abbrev S80x513 : Shape := ⟨2, ![80, 513]⟩
abbrev S41040 : Shape := ⟨1, ![41040]⟩
abbrev S32x4000x592 : Shape := ⟨3, ![32, 4000, 592]⟩
abbrev S32x4000x41040 : Shape := ⟨3, ![32, 4000, 41040]⟩
abbrev S41040x1 : Shape := ⟨2, ![41040, 1]⟩
abbrev S4000 : Shape := ⟨1, ![4000]⟩
abbrev S4000x1 : Shape := ⟨2, ![4000, 1]⟩
abbrev S592 : Shape := ⟨1, ![592]⟩
abbrev S1x592 : Shape := ⟨2, ![1, 592]⟩
abbrev S4000x592 : Shape := ⟨2, ![4000, 592]⟩
abbrev S2368000 : Shape := ⟨1, ![2368000]⟩
abbrev S32x320512 : Shape := ⟨2, ![32, 320512]⟩
abbrev S32x2368000 : Shape := ⟨2, ![32, 2368000]⟩
abbrev S2368000x1 : Shape := ⟨2, ![2368000, 1]⟩
abbrev S32x320000 : Shape := ⟨2, ![32, 320000]⟩

abbrev nBuf : Space → Nat
  | .hbm => 109
  | .vmem => 0
  | .smem => 0
  | _ => 0

abbrev bufTy : (tb : Table) → Fin (tcTables nBuf tb) → BufTy
  | .hbm, ⟨0, _⟩ => ⟨S32x4000x257, .f32⟩
  | .hbm, ⟨1, _⟩ => ⟨S32x4000x80, .f32⟩
  | .hbm, ⟨2, _⟩ => ⟨S_, .f32⟩
  | .hbm, ⟨3, _⟩ => ⟨S_, .f32⟩
  | .hbm, ⟨4, _⟩ => ⟨S513, .i32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .f32⟩
  | .hbm, ⟨10, _⟩ => ⟨S_, .f32⟩
  | .hbm, ⟨11, _⟩ => ⟨S513, .f32⟩
  | .hbm, ⟨12, _⟩ => ⟨S513, .f32⟩
  | .hbm, ⟨13, _⟩ => ⟨S513, .f32⟩
  | .hbm, ⟨14, _⟩ => ⟨S_, .f32⟩
  | .hbm, ⟨15, _⟩ => ⟨S513, .f32⟩
  | .hbm, ⟨16, _⟩ => ⟨S513, .f32⟩
  | .hbm, ⟨17, _⟩ => ⟨S513, .f32⟩
  | .hbm, ⟨18, _⟩ => ⟨S_, .f32⟩
  | .hbm, ⟨19, _⟩ => ⟨S513, .f32⟩
  | .hbm, ⟨20, _⟩ => ⟨S513, .f32⟩
  | .hbm, ⟨21, _⟩ => ⟨S_, .f32⟩
  | .hbm, ⟨22, _⟩ => ⟨S513, .f32⟩
  | .hbm, ⟨23, _⟩ => ⟨S513, .f32⟩
  | .hbm, ⟨24, _⟩ => ⟨S_, .f32⟩
  | .hbm, ⟨25, _⟩ => ⟨S_, .f32⟩
  | .hbm, ⟨26, _⟩ => ⟨S513x1, .i32⟩
  | .hbm, ⟨27, _⟩ => ⟨S1x256, .i32⟩
  | .hbm, ⟨28, _⟩ => ⟨S513x256, .i32⟩
  | .hbm, ⟨29, _⟩ => ⟨S513x256, .i32⟩
  | .hbm, ⟨30, _⟩ => ⟨S513x256, .i32⟩
  | .hbm, ⟨31, _⟩ => ⟨S513x256, .f32⟩
  | .hbm, ⟨32, _⟩ => ⟨S513x256, .f32⟩
  | .hbm, ⟨33, _⟩ => ⟨S513x256, .f32⟩
  | .hbm, ⟨34, _⟩ => ⟨S_, .f32⟩
  | .hbm, ⟨35, _⟩ => ⟨S513x256, .f32⟩
  | .hbm, ⟨36, _⟩ => ⟨S513x256, .f32⟩
  | .hbm, ⟨37, _⟩ => ⟨S513x256, .f32⟩
  | .hbm, ⟨38, _⟩ => ⟨S32x4000x1, .f32⟩
  | .hbm, ⟨39, _⟩ => ⟨S32x4000x256, .f32⟩
  | .hbm, ⟨40, _⟩ => ⟨S32x4000x513, .f32⟩
  | .hbm, ⟨41, _⟩ => ⟨S_, .f32⟩
  | .hbm, ⟨42, _⟩ => ⟨S32x4000x513, .f32⟩
  | .hbm, ⟨43, _⟩ => ⟨S32x4000x513, .f32⟩
  | .hbm, ⟨44, _⟩ => ⟨S32x4000x513, .f32⟩
  | .hbm, ⟨45, _⟩ => ⟨S32x4000x513, .f32⟩
  | .hbm, ⟨46, _⟩ => ⟨S_, .f32⟩
  | .hbm, ⟨47, _⟩ => ⟨S32x4000x513, .f32⟩
  | .hbm, ⟨48, _⟩ => ⟨S32x4000x513, .f32⟩
  | .hbm, ⟨49, _⟩ => ⟨S32x4000x256, .f32⟩
  | .hbm, ⟨50, _⟩ => ⟨S32x4000x257, .f32⟩
  | .hbm, ⟨51, _⟩ => ⟨S32x4000x513, .f32⟩
  | .hbm, ⟨52, _⟩ => ⟨S1x1x513, .f32⟩
  | .hbm, ⟨53, _⟩ => ⟨S32x4000x513, .f32⟩
  | .hbm, ⟨54, _⟩ => ⟨S32x4000x513, .f32⟩
  | .hbm, ⟨55, _⟩ => ⟨S_, .f32⟩
  | .hbm, ⟨56, _⟩ => ⟨S32x4000x80, .f32⟩
  | .hbm, ⟨57, _⟩ => ⟨S32x4000x80, .f32⟩
  | .hbm, ⟨58, _⟩ => ⟨S_, .f32⟩
  | .hbm, ⟨59, _⟩ => ⟨S32x4000x80, .f32⟩
  | .hbm, ⟨60, _⟩ => ⟨S32x4000x80, .f32⟩
  | .hbm, ⟨61, _⟩ => ⟨S32x4000x80x1, .f32⟩
  | .hbm, ⟨62, _⟩ => ⟨S32x4000x1x513, .f32⟩
  | .hbm, ⟨63, _⟩ => ⟨S32x4000x80x513, .f32⟩
  | .hbm, ⟨64, _⟩ => ⟨S32x4000x80x513, .f32⟩
  | .hbm, ⟨65, _⟩ => ⟨S32x4000x80x513, .f32⟩
  | .hbm, ⟨66, _⟩ => ⟨S80, .i32⟩
  | .hbm, ⟨67, _⟩ => ⟨S80x1, .i32⟩
  | .hbm, ⟨68, _⟩ => ⟨S1x513, .i32⟩
  | .hbm, ⟨69, _⟩ => ⟨S80x513, .i32⟩
  | .hbm, ⟨70, _⟩ => ⟨S80x513, .i32⟩
  | .hbm, ⟨71, _⟩ => ⟨S80x513, .i32⟩
  | .hbm, ⟨72, _⟩ => ⟨S41040, .i32⟩
  | .hbm, ⟨73, _⟩ => ⟨S_, .f32⟩
  | .hbm, ⟨74, _⟩ => ⟨S32x4000x592, .f32⟩
  | .hbm, ⟨75, _⟩ => ⟨S32x4000x41040, .f32⟩
  | .hbm, ⟨76, _⟩ => ⟨S_, .i32⟩
  | .hbm, ⟨77, _⟩ => ⟨S41040, .i32⟩
  | .hbm, ⟨78, _⟩ => ⟨S41040, .i1⟩
  | .hbm, ⟨79, _⟩ => ⟨S_, .i32⟩
  | .hbm, ⟨80, _⟩ => ⟨S41040, .i32⟩
  | .hbm, ⟨81, _⟩ => ⟨S41040, .i32⟩
  | .hbm, ⟨82, _⟩ => ⟨S41040, .i32⟩
  | .hbm, ⟨83, _⟩ => ⟨S41040x1, .i32⟩
  | .hbm, ⟨84, _⟩ => ⟨S32x4000x592, .f32⟩
  | .hbm, ⟨85, _⟩ => ⟨S4000, .i32⟩
  | .hbm, ⟨86, _⟩ => ⟨S4000x1, .i32⟩
  | .hbm, ⟨87, _⟩ => ⟨S_, .i32⟩
  | .hbm, ⟨88, _⟩ => ⟨S4000x1, .i32⟩
  | .hbm, ⟨89, _⟩ => ⟨S4000x1, .i32⟩
  | .hbm, ⟨90, _⟩ => ⟨S592, .i32⟩
  | .hbm, ⟨91, _⟩ => ⟨S1x592, .i32⟩
  | .hbm, ⟨92, _⟩ => ⟨S4000x592, .i32⟩
  | .hbm, ⟨93, _⟩ => ⟨S4000x592, .i32⟩
  | .hbm, ⟨94, _⟩ => ⟨S4000x592, .i32⟩
  | .hbm, ⟨95, _⟩ => ⟨S2368000, .i32⟩
  | .hbm, ⟨96, _⟩ => ⟨S_, .f32⟩
  | .hbm, ⟨97, _⟩ => ⟨S32x320512, .f32⟩
  | .hbm, ⟨98, _⟩ => ⟨S32x2368000, .f32⟩
  | .hbm, ⟨99, _⟩ => ⟨S_, .i32⟩
  | .hbm, ⟨100, _⟩ => ⟨S2368000, .i32⟩
  | .hbm, ⟨101, _⟩ => ⟨S2368000, .i1⟩
  | .hbm, ⟨102, _⟩ => ⟨S_, .i32⟩
  | .hbm, ⟨103, _⟩ => ⟨S2368000, .i32⟩
  | .hbm, ⟨104, _⟩ => ⟨S2368000, .i32⟩
  | .hbm, ⟨105, _⟩ => ⟨S2368000, .i32⟩
  | .hbm, ⟨106, _⟩ => ⟨S2368000x1, .i32⟩
  | .hbm, ⟨107, _⟩ => ⟨S32x320512, .f32⟩
  | .hbm, ⟨108, _⟩ => ⟨S32x320000, .f32⟩
  | _, _ => ⟨S32x4000x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_c_15 : Ref sig .tc := ⟨.hbm, 99, rfl⟩
abbrev main_v78 : Ref sig .tc := ⟨.hbm, 100, rfl⟩
abbrev main_v79 : Ref sig .tc := ⟨.hbm, 101, rfl⟩
abbrev main_c_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Proof.Column.lean ====
/-
  Columns of the kernel's two-dimensional vectors, read by row number.

  The body builds its long accumulator by padding a block with zero rows above and below and adding the padded
  blocks. Read down one column, with zero beyond the last row, a pad below changes nothing and a pad above by `k` rows
  is a shift by `k`; this file states that once, for any sizes.
-/
module

public import Idealize.ShloMosaic.Lib.Pointwise
public import Idealize.ShloMosaic.Lib.KernelVsHost

@[expose] public section

noncomputable section

namespace Cert.Proof.Column

open Idealize.ShloMosaic

variable {r r₁ r₂ k c : ℕ}

/-- Column `l` of `v` as a function of the row number, zero beyond the last row. -/
def col (v : (⟨2, ![r, c]⟩ : Shape).Idx → EReal) (l : Fin c) (n : ℕ) : EReal :=
  if h : n < r then v (ix2 ⟨n, h⟩ l) else 0

/-- A sequence moved down by `k` places, zero in the first `k`. -/
def sh (k : ℕ) (f : ℕ → EReal) (n : ℕ) : EReal := if k ≤ n then f (n - k) else 0

/-- A sequence cut at length `r`. -/
def cut (r : ℕ) (f : ℕ → EReal) (n : ℕ) : EReal := if n < r then f n else 0

/-- A column at a row of the vector is the entry there. -/
theorem col_of_lt (v : (⟨2, ![r, c]⟩ : Shape).Idx → EReal) (l : Fin c) (n : Fin r) :
    col v l n.val = v (ix2 n l) := by
  unfold col; rw [dif_pos n.isLt]

/-- A column beyond the last row is zero. -/
theorem col_of_ge (v : (⟨2, ![r, c]⟩ : Shape).Idx → EReal) (l : Fin c) {n : ℕ} (h : r ≤ n) : col v l n = 0 := by
  unfold col; rw [dif_neg (by omega)]

/-- A shift of a sum is the sum of the shifts. -/
theorem sh_add (k : ℕ) (f g : ℕ → EReal) : sh k (f + g) = sh k f + sh k g := by
  funext n; simp only [sh, Pi.add_apply]; split <;> simp

/-- Two shifts are one. -/
theorem sh_sh (k j : ℕ) (f : ℕ → EReal) : sh k (sh j f) = sh (k + j) f := by
  funext n; simp only [sh]
  by_cases h1 : k ≤ n
  · by_cases h2 : j ≤ n - k
    · rw [if_pos h1, if_pos h2, if_pos (by omega)]; congr 1; omega
    · rw [if_pos h1, if_neg h2, if_neg (by omega)]
  · rw [if_neg h1, if_neg (by omega)]

/-- A shift by nothing. -/
theorem sh_zero (f : ℕ → EReal) : sh 0 f = f := by
  funext n; simp [sh]

/-- The column of a sum is the sum of the columns. -/
theorem col_addf (v w : FVec Ideal ⟨2, ![r, c]⟩ .f32) (l : Fin c) :
    col (addf v w) l = col v l + col w l := by
  funext n
  simp only [col, Pi.add_apply]
  split
  · rfl
  · simp

/-- Zero rows below change no column. -/
theorem col_below (x : (⟨2, ![r₁, c]⟩ : Shape).Idx → EReal)
    (h : Shape.Concatenates [⟨2, ![r₁, c]⟩, ⟨2, ![r₂, c]⟩] ⟨2, ![r, c]⟩ 0) (l : Fin c) :
    col (concatenate ⟨2, ![r, c]⟩ 0 [⟨⟨2, ![r₁, c]⟩, x⟩,
      ⟨⟨2, ![r₂, c]⟩, broadcast ⟨2, ![r₂, c]⟩ (Scalar.sitofp .f32 0#32 : Ideal .f32)⟩] h) l = col x l := by
  have hr : r₁ + r₂ = r := by simpa using h.size_axis
  funext n
  by_cases h1 : n < r₁
  · simp only [col, dif_pos h1, dif_pos (show n < r by omega)]
    exact concatenate_pair_apply_left _ _ _ h _ rfl _ (by intro b; fin_cases b <;> rfl)
  · rw [col_of_ge x l (by omega)]
    by_cases h2 : n < r
    · simp only [col, dif_pos h2]
      refine (concatenate_pair_apply_right _ _ _ h _ rfl rfl (ix2 ⟨n - r₁, by omega⟩ l) ?_ ?_).trans ?_
      · intro b hb; fin_cases b
        · exact absurd rfl hb
        · rfl
      · show n - r₁ + r₁ = n; omega
      · exact sitofp_zero
    · exact col_of_ge _ l (by omega)

/-- Zero rows above shift every column. -/
theorem col_above (x : (⟨2, ![r₂, c]⟩ : Shape).Idx → EReal)
    (h : Shape.Concatenates [⟨2, ![k, c]⟩, ⟨2, ![r₂, c]⟩] ⟨2, ![r, c]⟩ 0) (l : Fin c) :
    col (concatenate ⟨2, ![r, c]⟩ 0 [⟨⟨2, ![k, c]⟩, broadcast ⟨2, ![k, c]⟩ (Scalar.sitofp .f32 0#32 : Ideal .f32)⟩,
      ⟨⟨2, ![r₂, c]⟩, x⟩] h) l = sh k (col x l) := by
  have hr : k + r₂ = r := by simpa using h.size_axis
  funext n
  unfold sh
  by_cases h1 : k ≤ n
  · rw [if_pos h1]
    by_cases h2 : n < r
    · simp only [col, dif_pos h2, dif_pos (show n - k < r₂ by omega)]
      refine concatenate_pair_apply_right _ _ _ h _ rfl rfl (ix2 ⟨n - k, by omega⟩ l) ?_ ?_
      · intro b hb; fin_cases b
        · exact absurd rfl hb
        · rfl
      · show n - k + k = n; omega
    · rw [col_of_ge _ l (by omega), col_of_ge _ l (by omega)]
  · rw [if_neg h1]
    simp only [col, dif_pos (show n < r by omega)]
    refine (concatenate_pair_apply_left _ _ _ h _ rfl (ix2 ⟨n, by omega⟩ l) ?_).trans sitofp_zero
    intro b; fin_cases b <;> rfl

/-- The first rows of a vector: the column cut. -/
theorem col_prefix (x : (⟨2, ![r₁, c]⟩ : Shape).Idx → EReal) (h : (⟨2, ![r₁, c]⟩ : Shape).Slices ![0, 0] ⟨2, ![r, c]⟩)
    (l : Fin c) :
    col (extractStridedSlice ⟨2, ![r, c]⟩ ![0, 0] x h) l = cut r (col x l) := by
  have hr : 0 + r ≤ r₁ := h.2 0
  funext n
  unfold cut
  by_cases h1 : n < r
  · rw [if_pos h1]
    simp only [col, dif_pos h1, dif_pos (show n < r₁ by omega)]
    exact extractStridedSlice_apply _ _ h _ _ (by intro b; fin_cases b <;> simp)
  · rw [if_neg h1, col_of_ge _ l (by omega)]

/-- One row, repeated down and multiplied into a block. -/
theorem col_row_mul (a : ℕ) (x : FVec Ideal ⟨2, ![r₁, c]⟩ .f32) (y : FVec Ideal ⟨2, ![r, c]⟩ .f32)
    (hs : (⟨2, ![r₁, c]⟩ : Shape).Slices ![a, 0] ⟨2, ![1, c]⟩) (hb : (⟨2, ![1, c]⟩ : Shape).Broadcasts ⟨2, ![r, c]⟩)
    (l : Fin c) :
    col (mulf (broadcastTo ⟨2, ![r, c]⟩ (extractStridedSlice ⟨2, ![1, c]⟩ ![a, 0] x hs) hb) y) l
      = fun n => col x l a * col y l n := by
  have ha : a + 1 ≤ r₁ := hs.2 0
  funext n
  by_cases h1 : n < r
  · simp only [col, dif_pos h1, dif_pos (show a < r₁ by omega)]
    show _ * _ = _ * _
    congr 1
    refine (broadcastTo_apply _ hb _ (ix2 ⟨0, by omega⟩ l) ?_).trans (extractStridedSlice_apply _ _ hs _ _ ?_)
    · intro b
      match b with
      | ⟨0, _⟩ => rfl
      | ⟨1, _⟩ =>
        show l.val = if c = 1 then 0 else l.val
        split
        · have := l.isLt; omega
        · rfl
    · intro b; fin_cases b <;> simp
  · rw [col_of_ge _ l (by omega), col_of_ge y l (by omega), mul_zero]

end Cert.Proof.Column

end
-- ==== Proof.Scalars.lean ====
/-
  The numbers both programs are made of: the constants, the window and the cosine table over the reals.
-/
module

public import Idealize.ShloMosaic.Lib.Pointwise
public import Idealize.ShloMosaic.Lib.IdealHost
public import Idealize.ShloMosaic.Lib.KernelVsHost

@[expose] public section

noncomputable section

namespace Cert.Proof.Scalars

open Idealize.ShloMosaic

/-- The f32 pattern `0x40000000` is two. -/
theorem ofBits_two : Ideal.ofBits .f32 0x40000000#32 = ((2 : ℝ) : EReal) := by
  simp [Ideal.ofBits, Ideal.ieee, -EReal.coe_mul]; norm_num

/-- The f32 pattern `0x3F000000` is one half. -/
theorem ofBits_half : Ideal.ofBits .f32 0x3F000000#32 = ((1 / 2 : ℝ) : EReal) := by
  simp [Ideal.ofBits, Ideal.ieee, -EReal.coe_mul]; norm_num

/-- The f32 pattern `0x44004000` is 513. -/
theorem ofBits_513 : Ideal.ofBits .f32 0x44004000#32 = ((513 : ℝ) : EReal) := by
  simp [Ideal.ofBits, Ideal.ieee, -EReal.coe_mul]; norm_num

/-- The f32 pattern `0x43800000` is 256. -/
theorem ofBits_256 : Ideal.ofBits .f32 0x43800000#32 = ((256 : ℝ) : EReal) := by
  simp [Ideal.ofBits, Ideal.ieee, -EReal.coe_mul]; norm_num

/-- The f32 pattern `0xBF800000` is minus one. -/
theorem ofBits_neg_one : Ideal.ofBits .f32 0xBF800000#32 = ((-1 : ℝ) : EReal) := by
  simp [Ideal.ofBits, Ideal.ieee, -EReal.coe_mul, -EReal.coe_neg]; norm_num

/-- A counter's value as a float. -/
theorem sitofp_ofNat {n : ℕ} (h : n < 2 ^ 31) :
    (FloatOps.sitofp .f32 (BitVec.ofNat 32 n) : Ideal .f32) = ((n : ℝ) : EReal) := by
  show (((BitVec.ofNat 32 n).toInt : ℝ) : EReal) = _
  rw [show (BitVec.ofNat 32 n).toInt = (n : ℤ) by
    rw [BitVec.toInt_eq_toNat_of_lt] <;> rw [BitVec.toNat_ofNat, Nat.mod_eq_of_lt] <;> omega]
  rfl

/-- The arc cosine of minus one is π. -/
theorem acos_neg_one : Ideal.acos (Ideal.ofBits .f32 0xBF800000#32) = (Real.pi : EReal) := by
  rw [ofBits_neg_one, Ideal.acos_coe, if_pos (by norm_num), Real.arccos_neg_one]

/-- Division of a real by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The Hann window of 513 points. -/
def hann (n : ℕ) : ℝ := 1 / 2 * (1 - Real.cos (2 * Real.pi * n / 513))

/-- The window is not negative. -/
theorem hann_nonneg (n : ℕ) : 0 ≤ hann n := by
  have := Real.cos_le_one (2 * Real.pi * n / 513)
  unfold hann; linarith

/-- The weight of a band: one for the zeroth, two for the others. -/
def weight (k : ℕ) : ℝ := if k = 0 then 1 else 2

/-- The kernel's table: the windowed linear-phase filter of a unit band `k`, at tap `r`. -/
def table (r k : ℕ) : ℝ :=
  Real.cos (2 * Real.pi / 513 * (((r : ℝ) - 256) * k)) * (weight k / 513) * hann r

/-- The window as either program computes it. -/
theorem hann_eq (n : ℕ) (hn : n < 2 ^ 31) :
    Ideal.ofBits .f32 0x3F000000#32 * (1 - Ideal.cos (Ideal.div (Ideal.ofBits .f32 0x40000000#32
      * Ideal.acos (Ideal.ofBits .f32 0xBF800000#32) * (FloatOps.sitofp .f32 (BitVec.ofNat 32 n) : Ideal .f32)) (Ideal.ofBits .f32 0x44004000#32)))
      = (hann n : EReal) := by
  rw [acos_neg_one, ofBits_two, ofBits_half, ofBits_513, sitofp_ofNat hn, ← EReal.coe_mul, ← EReal.coe_mul,
    div_real _ (by norm_num), Ideal.cos_coe, ← EReal.coe_one, ← EReal.coe_sub, ← EReal.coe_mul]
  rfl

end Cert.Proof.Scalars
-- ==== Proof.Block.lean ====
/-
  What one grid step of the kernel leaves in its output block.

  With `nz` the block's noise (80 rows) and `fir` its filters (513 rows, padded to 520), every column of the long
  accumulator is the convolution of the two columns, and the output adds eight slices of the accumulator.
-/
module

public import proofs.«01_k».proof.Proof.Column
public import proofs.«01_k».proof.Proof.Scalars
public import proofs.«01_k».proof.Proof.Gen.KernelIdeal.Frame

@[expose] public section

set_option maxRecDepth 16384

noncomputable section

namespace Cert.Proof.Block

open Idealize.ShloMosaic Cert.KernelIdeal Cert.KernelIdeal.Gen Cert.Proof.Column

/-- The accumulator before its last shifted part is added. -/
def acc1 (nz : FVec Ideal S80x508 .f32) (fir : FVec Ideal S520x508 .f32) (v25 v33 : FVec Ideal S592x508 .f32) : FVec Ideal S592x508 .f32 :=
  k0_pay31 nz fir (k0_pay26 nz fir (k0_pay24 (k0_pay19 nz fir (k0_pay14 nz fir (k0_pay11 nz fir
    (k0_pay8 nz fir (k0_pay6 nz fir v25 v33) (k0_pay7 nz fir)) (k0_pay9 nz fir) (k0_pay10 nz fir) 0#32) (k0_pay12 nz fir) (k0_pay13 nz fir))
    (k0_pay17 nz fir (k0_pay15 nz fir) (k0_pay16 nz)) (k0_pay18 nz)) (k0_pay22 nz fir (k0_pay20 nz fir) (k0_pay21 nz)) (k0_pay23 (F := Ideal)))
    (k0_pay25 nz fir)) (k0_pay29 nz fir (k0_pay27 nz fir) (k0_pay28 nz fir)) (k0_pay30 nz fir)

/-- The tap of row `a`: row `a` of the noise column times the filter column, moved down by `a` rows. -/
def tap (N R : ℕ → EReal) (a : ℕ) : ℕ → EReal := sh a fun n => N a * R n

/-- The convolution of two columns, the first 80 long. -/
def conv (N R : ℕ → EReal) (n : ℕ) : EReal := ∑ a ∈ Finset.range 80, tap N R a n

/-- Ten taps eight rows apart, as the body adds them for one residue. -/
def tens (N R : ℕ → EReal) (s n : ℕ) : EReal := ∑ q ∈ Finset.range 10, tap N R (8 * q + s) n

/-- A sum over `8 m` terms, regrouped by residue modulo eight. -/
theorem sum_residues (f : ℕ → EReal) (m : ℕ) :
    ∑ a ∈ Finset.range (8 * m), f a = ∑ s ∈ Finset.range 8, ∑ q ∈ Finset.range m, f (8 * q + s) := by
  rw [Finset.sum_comm]
  induction m with
  | zero => simp
  | succ m ih => rw [Finset.sum_range_succ, ← ih, Nat.mul_succ, Finset.sum_range_add]

/-- The eighty taps are the ten taps of each of the eight residues. -/
theorem conv_eq_tens (N R : ℕ → EReal) (n : ℕ) : conv N R n = ∑ s ∈ Finset.range 8, tens N R s n := by
  exact sum_residues (fun a => tap N R a n) 10

/-- The first seven residues. -/
theorem col_acc1 (v0 v2 v5 v7 v14) (l : Fin 508) (n : ℕ) (hn : n < 592) :
    col (acc1 (k0_pay2 v5 v7) (k0_pay3 v0 v2 v14) (k0_pay4 v0 v2 v5 v7 v14) (k0_pay5 v0 v2 v5 v7 v14)) l n
      = ∑ s ∈ Finset.range 7, tens (col (k0_pay2 v5 v7) l) (col (k0_pay3 v0 v2 v14) l) s n := by
  unfold acc1
  generalize hN : k0_pay2 v5 v7 = nz
  generalize hR : k0_pay3 v0 v2 v14 = fir
  dsimp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rw [hN, hR]
  simp only [col_addf, col_below, col_above, col_prefix, col_row_mul, sh_add, sh_sh, Nat.reduceAdd]
  simp only [Finset.sum_range_succ, Finset.sum_range_zero, zero_add, tens, tap, Pi.add_apply, cut, if_pos hn, Nat.reduceMul,
    Nat.reduceAdd, sh_zero]

/-- The ten taps of the last residue, before the body shifts them by seven rows. -/
theorem col_last (nz : FVec Ideal S80x508 .f32) (fir : FVec Ideal S520x508 .f32) (l : Fin 508) :
    sh 7 (col (k0_pay36 nz fir (k0_pay32 nz fir) (k0_pay34 nz fir) (k0_pay35 (F := Ideal))) l)
      = tens (col nz l) (col fir l) 7 := by
  dsimp only [k0_pay32, k0_pay33, k0_pay34, k0_pay35, k0_pay36]
  simp only [col_addf, col_below, col_above, col_prefix, col_row_mul, sh_add, sh_sh, Nat.reduceAdd]
  funext n
  simp only [Finset.sum_range_succ, Finset.sum_range_zero, zero_add, tens, tap, Pi.add_apply, Nat.reduceMul, Nat.reduceAdd]

/-- A slice of a vector, read at an index, is the column read further down. -/
theorem slice_apply {r c r' c' : ℕ} (a b : ℕ) (x : (⟨2, ![r, c]⟩ : Shape).Idx → EReal)
    (h : (⟨2, ![r, c]⟩ : Shape).Slices ![a, b] ⟨2, ![r', c']⟩) (i : Fin r') (j : Fin c') (l : Fin c) (hl : l.val = b + j.val) :
    extractStridedSlice ⟨2, ![r', c']⟩ ![a, b] x h (ix2 i j) = col x l (a + i.val) := by
  have h0 : a + r' ≤ r := h.2 0
  have hi := i.isLt
  rw [col, dif_pos (by omega)]
  refine extractStridedSlice_apply _ _ h _ _ ?_
  intro d
  match d with
  | ⟨0, _⟩ => rfl
  | ⟨1, _⟩ => exact hl

/-- The column the `p`-th slice reads for column `c` of the output block: `p` frames earlier, after the eight of the halo. -/
abbrev lane (p : Fin 8) (c : Fin 500) : Fin 508 := ⟨8 - p.val + c.val, by omega⟩

/-- The output block: eight slices of the accumulator, each one frame earlier and eighty rows further down. -/
theorem pay1_apply (v w : FVec Ideal S592x508 .f32) (r : Fin 80) (c : Fin 500) :
    k0_pay1 (F := Ideal) v w (ix4 0 0 r c)
      = ∑ p : Fin 8, (col v (lane p c) + cut 592 (sh 7 (col w (lane p c)))) (80 * p.val + r.val) := by
  have key : ∀ l, col v l + cut 592 (sh 7 (col w l)) = col (addf v (extractStridedSlice S592x508 ![0, 0]
      (concatenate S599x508 0 [⟨S7x508, broadcast S7x508 (Scalar.sitofp .f32 0#32 : Ideal .f32)⟩, ⟨S592x508, w⟩]
        concatenates_S7x508_S592x508_S599x508_d0) slices_S599x508_o0_0_S592x508)) l := by
    intro l; simp only [col_addf, col_above, col_prefix]
  simp only [key]
  dsimp only [k0_pay1]
  generalize addf v _ = u
  rw [Fin.sum_univ_eight]
  refine (shapeCast_apply _ _ _ (ix2 r c) ?_).trans ?_
  · rw [Shape.rowMajor_val_two, Shape.rowMajor_val_four]
    show r.val * 500 + c.val = ((0 * 1 + 0) * 80 + r.val) * 500 + c.val
    omega
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  iterate 7 exact slice_apply _ _ _ _ _ _ _ rfl
  have hb := concatenates_S32x500_S48x500_S80x500_d0
  refine (col_of_lt _ c r).symm.trans ?_
  rw [col_below]
  by_cases hr : r.val < 32
  · exact (col_of_lt _ c ⟨r.val, hr⟩).trans (slice_apply _ _ _ _ _ _ _ rfl)
  · rw [col_of_ge _ _ (by omega), col_of_ge]
    show 592 ≤ 80 * 7 + r.val
    omega

/-- The zero offset of a whole two-dimensional read; -/
theorem hz2 : (![0, 0] : Fin 2 → ℕ) = fun _ => 0 := funext fun a => by fin_cases a <;> rfl
/-- and of a whole four-dimensional one. -/
theorem hz4 : (![0, 0, 0, 0] : Fin 4 → ℕ) = fun _ => 0 := funext fun a => by fin_cases a <;> rfl

/-- The block's noise, 80 rows by 508 frames: the halo's eight frames and then the block's, each sample `2 u − 1`. -/
theorem noise_col (v5 : Vec Ideal S1x1x80x8 .f32) (v7 : Vec Ideal S1x1x80x500 .f32) (l : Fin 508) (a : Fin 80) :
    col (k0_pay2 v5 v7) l a.val
      = (if h : l.val < 8 then v5 (ix4 0 0 a ⟨l.val, h⟩) else v7 (ix4 0 0 a ⟨l.val - 8, by omega⟩)) * ((2 : ℝ) : EReal) - 1 := by
  rw [col_of_lt]
  pointwise [k0_pay2]
  rw [Scalars.ofBits_two]

/-- The block's filters: row `m` of the table times the frame's spectrum. -/
theorem fir_col (v0 : Vec Ideal S1x1x257x8 .f32) (v2 : Vec Ideal S1x1x257x500 .f32) (v14 : Vec Ideal S513x257 .f32)
    (l : Fin 508) (m : Fin 513) :
    col (k0_pay3 v0 v2 v14) l m.val
      = ∑ k : Fin 257, v14 (ix2 m k)
          * (if h : l.val < 8 then v0 (ix4 0 0 k ⟨l.val, h⟩) else v2 (ix4 0 0 k ⟨l.val - 8, by omega⟩)) := by
  dsimp only [k0_pay3]
  rw [col_below, col_of_lt]
  pointwise

/-- Beyond its 513 rows the filter column is zero. -/
theorem fir_col_zero (v0 : Vec Ideal S1x1x257x8 .f32) (v2 : Vec Ideal S1x1x257x500 .f32) (v14 : Vec Ideal S513x257 .f32)
    (l : Fin 508) (n : ℕ) (hn : 513 ≤ n) : col (k0_pay3 v0 v2 v14) l n = 0 := by
  dsimp only [k0_pay3]
  rw [col_below, col_of_ge _ _ hn]

/-- A convolution with a filter of 513 taps is zero from place 592 on. -/
theorem conv_zero (N R : ℕ → EReal) (hR : ∀ n, 513 ≤ n → R n = 0) (n : ℕ) (hn : 592 ≤ n) : conv N R n = 0 := by
  refine Finset.sum_eq_zero fun a ha => ?_
  have := Finset.mem_range.1 ha
  simp only [tap, sh]
  split
  · rw [hR _ (by omega), mul_zero]
  · rfl

/-- The output block of one grid step: for each of eight frames, the frame's noise convolved with its filter. -/
theorem out_apply (x0 : Vec Ideal S513x257 .f32) (x1 : Vec Ideal S1x1x257x500 .f32) (x2 : Vec Ideal S1x1x257x8 .f32)
    (x3 : Vec Ideal S1x1x80x500 .f32) (x4 : Vec Ideal S1x1x80x8 .f32) (r : Fin 80) (c : Fin 500) :
    out0_5 x0 x1 x2 x3 x4 (ix4 0 0 r c)
      = ∑ p : Fin 8, conv (col (k0_pay2 x4 x3) (lane p c)) (col (k0_pay3 x2 x1 x0) (lane p c)) (80 * p.val + r.val) := by
  unfold_out out0_5
  rw [View.canon_unit_zero hz4]
  rw [show View.ld x0 r0_4 = x0 from View.ld_unit_zero hz2 _ _, show View.ld x1 r0_1 = x1 from View.ld_unit_zero hz4 _ _,
    show View.ld x2 r0_0 = x2 from View.ld_unit_zero hz4 _ _, show View.ld x3 r0_3 = x3 from View.ld_unit_zero hz4 _ _,
    show View.ld x4 r0_2 = x4 from View.ld_unit_zero hz4 _ _]
  refine (pay1_apply (acc1 (k0_pay2 x4 x3) (k0_pay3 x2 x1 x0) (k0_pay4 x2 x1 x4 x3 x0) (k0_pay5 x2 x1 x4 x3 x0)) _ r c).trans ?_
  refine Finset.sum_congr rfl fun p _ => ?_
  rw [col_last]
  by_cases hn : 80 * p.val + r.val < 592
  · rw [Pi.add_apply, col_acc1 _ _ _ _ _ _ _ hn, cut, if_pos hn, conv_eq_tens, Finset.sum_range_succ _ 7]
  · rw [conv_zero _ _ (fir_col_zero _ _ _ _) _ (by omega), Pi.add_apply, col_of_ge _ _ (by omega), cut, if_neg hn, add_zero]

end Cert.Proof.Block

end
-- ==== Proof.Host.lean ====
/-
  What the host operations before the kernel leave in the five arrays it reads, from the two arguments.
-/
module

public import proofs.«01_k».proof.Proof.Block
public import proofs.«01_k».proof.Proof.Scalars

@[expose] public section

set_option maxRecDepth 16384

noncomputable section

namespace Cert.Proof.Host

open Idealize.ShloMosaic Idealize.ShloMosaic.TcCoe Idealize.SL.Sem Cert.KernelIdeal Cert.KernelIdeal.Gen Cert.Proof.Scalars

variable (m : (ℓ : Loc nD τ sig) → Buf (Elt Ideal) ℓ)

/-- The spectra as launched: batch, frame, band. -/
abbrev argH (c : Dev nD) : Vec Ideal S32x4000x257 .f32 := m ((c : Thread nD τ).loc main_arg0)
/-- The noise as launched: batch, frame, sample. -/
abbrev argU (c : Dev nD) : Vec Ideal S32x4000x80 .f32 := m ((c : Thread nD τ).loc main_arg1)

/-- An argument with eight zero frames put in front, read by frame number. -/
def padded {d : ℕ} (x : (⟨3, ![32, 4000, d]⟩ : Shape).Idx → EReal) (b : Fin 32) (g : ℕ) (k : Fin d) : EReal :=
  if h : 8 ≤ g ∧ g - 8 < 4000 then x (ix3 b ⟨g - 8, h.2⟩ k) else 0

/-- The spectra, chunk by chunk: chunk `i`, batch `b`, band `k`, frame `l` of the chunk. -/
theorem V_38 (c : Dev nD) (i : Fin 8) (b : Fin 32) (k : Fin 257) (l : Fin 500) :
    V m c main_v38 (ix4 i b k l) = argH m c (ix3 b ⟨500 * i.val + l.val, by omega⟩ k) := by
  have e : V m c main_v38 = transpose S8x32x257x500 [1, 0, 3, 2] (shapeCast S32x8x500x257 (argH m c)
      shapeCasts_S32x4000x257_S32x8x500x257) transposes_S32x8x500x257_S8x32x257x500_1_0_3_2 := by
    show StableHlo.after _ _ _ = _
    simp only [hostOps0, hostOps0_1, hostOps0_2, hostOps0_3, hostOps0_4, hostOps0_5, hostOps0_6, List.flatten_cons,
      List.flatten_nil, List.append_nil, List.cons_append, List.nil_append, StableHlo.TRef.binary, StableHlo.TRef.unary,
      StableHlo.TRef.ternary, StableHlo.TRef.toBuf, StableHlo.TRef.ofBuf, cast_eq]
    after_results_simp
    rfl
  rw [e]
  generalize argH m c = x
  pointwise
  congr 3
  omega

/-- The noise, chunk by chunk: sample `k` of frame `l` of chunk `i`. -/
theorem V_40 (c : Dev nD) (i : Fin 8) (b : Fin 32) (k : Fin 80) (l : Fin 500) :
    V m c main_v40 (ix4 i b k l) = argU m c (ix3 b ⟨500 * i.val + l.val, by omega⟩ k) := by
  have e : V m c main_v40 = transpose S8x32x80x500 [1, 0, 3, 2] (shapeCast S32x8x500x80 (argU m c)
      shapeCasts_S32x4000x80_S32x8x500x80) transposes_S32x8x500x80_S8x32x80x500_1_0_3_2 := by
    show StableHlo.after _ _ _ = _
    simp only [hostOps0, hostOps0_1, hostOps0_2, hostOps0_3, hostOps0_4, hostOps0_5, hostOps0_6, List.flatten_cons,
      List.flatten_nil, List.append_nil, List.cons_append, List.nil_append, StableHlo.TRef.binary, StableHlo.TRef.unary,
      StableHlo.TRef.ternary, StableHlo.TRef.toBuf, StableHlo.TRef.ofBuf, cast_eq]
    after_results_simp
    rfl
  rw [e]
  generalize argU m c = x
  pointwise
  congr 3
  omega

/-- The spectra of the eight frames before each chunk, zero before the first. -/
theorem V_45 (c : Dev nD) (i : Fin 8) (b : Fin 32) (k : Fin 257) (l : Fin 8) :
    V m c main_v45 (ix4 i b k l) = padded (argH m c) b (500 * i.val + l.val) k := by
  have e : V m c main_v45 = transpose S8x32x257x8 [1, 0, 3, 2] (extractStridedSlice S32x8x8x257 ![0, 0, 0, 0]
      (shapeCast S32x8x500x257 (extractStridedSlice S32x4000x257 ![0, 0, 0]
        (pad S32x4008x257 ![0, 8, 0] ![0, 0, 0] ![0, 0, 0] (argH m c) (sitofp .f32 (constantI S_ 32 0#32) : FVec Ideal S_ .f32)
          pads_S32x4000x257_S32x4008x257_000_800_000 h_S_)
        slices_S32x4008x257_S32x4000x257_0_0_0) shapeCasts_S32x4000x257_S32x8x500x257)
      slices_S32x8x500x257_S32x8x8x257_0_0_0_0) transposes_S32x8x8x257_S8x32x257x8_1_0_3_2 := by
    show StableHlo.after _ _ _ = _
    simp only [hostOps0, hostOps0_1, hostOps0_2, hostOps0_3, hostOps0_4, hostOps0_5, hostOps0_6, List.flatten_cons,
      List.flatten_nil, List.append_nil, List.cons_append, List.nil_append, StableHlo.TRef.binary, StableHlo.TRef.unary,
      StableHlo.TRef.ternary, StableHlo.TRef.toBuf, StableHlo.TRef.ofBuf, cast_eq]
    after_results_simp
    rfl
  rw [e]
  generalize argH m c = x
  pointwise
  rw [Nat.mul_comm 500]
  exact dite_congr rfl (fun _ => rfl) fun _ => (sitofp_zero (φ := .f32))

/-- The noise of the eight frames before each chunk, zero before the first. -/
theorem V_50 (c : Dev nD) (i : Fin 8) (b : Fin 32) (k : Fin 80) (l : Fin 8) :
    V m c main_v50 (ix4 i b k l) = padded (argU m c) b (500 * i.val + l.val) k := by
  have e : V m c main_v50 = transpose S8x32x80x8 [1, 0, 3, 2] (extractStridedSlice S32x8x8x80 ![0, 0, 0, 0]
      (shapeCast S32x8x500x80 (extractStridedSlice S32x4000x80 ![0, 0, 0]
        (pad S32x4008x80 ![0, 8, 0] ![0, 0, 0] ![0, 0, 0] (argU m c) (sitofp .f32 (constantI S_ 32 0#32) : FVec Ideal S_ .f32)
          pads_S32x4000x80_S32x4008x80_000_800_000 h_S_)
        slices_S32x4008x80_S32x4000x80_0_0_0) shapeCasts_S32x4000x80_S32x8x500x80)
      slices_S32x8x500x80_S32x8x8x80_0_0_0_0) transposes_S32x8x8x80_S8x32x80x8_1_0_3_2 := by
    show StableHlo.after _ _ _ = _
    simp only [hostOps0, hostOps0_1, hostOps0_2, hostOps0_3, hostOps0_4, hostOps0_5, hostOps0_6, List.flatten_cons,
      List.flatten_nil, List.append_nil, List.cons_append, List.nil_append, StableHlo.TRef.binary, StableHlo.TRef.unary,
      StableHlo.TRef.ternary, StableHlo.TRef.toBuf, StableHlo.TRef.ofBuf, cast_eq]
    after_results_simp
    rfl
  rw [e]
  generalize argU m c = x
  pointwise
  rw [Nat.mul_comm 500]
  exact dite_congr rfl (fun _ => rfl) fun _ => (sitofp_zero (φ := .f32))

/-- The table the host computes. -/
theorem V_36 (c : Dev nD) (r : Fin 513) (k : Fin 257) : V m c main_v36 (ix2 r k) = ((table r.val k.val : ℝ) : EReal) := by
  show StableHlo.after _ _ _ _ = _
  simp only [hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.ternary, StableHlo.TRef.toBuf, StableHlo.TRef.ofBuf, cast_eq]
  after_results_simp
  simp only [id_eq]
  pointwise
  have hk : (k.val : ℝ) = 0 ↔ k.val = 0 := Nat.cast_eq_zero
  have hw : (if ((k.val : ℝ) : EReal) = 0 then (1 : EReal) else ((2 : ℝ) : EReal)) = ((weight k.val : ℝ) : EReal) := by
    unfold weight
    by_cases h : k.val = 0
    · rw [if_pos (by rw [h]; simp), if_pos h, EReal.coe_one]
    · rw [if_neg (by rw [EReal.coe_eq_zero, hk]; exact h), if_neg h]
  rw [hann_eq _ (by omega), acos_neg_one, ofBits_two, ofBits_513, ofBits_256, sitofp_ofNat (by omega), sitofp_ofNat (by omega),
    hw, ← EReal.coe_mul, div_real _ (by norm_num), div_real _ (by norm_num), ← EReal.coe_sub, ← EReal.coe_mul, ← EReal.coe_mul,
    Ideal.cos_coe, ← EReal.coe_mul, ← EReal.coe_mul]
  rfl

end Cert.Proof.Host
-- ==== Proof.KernelRun.lean ====
/-
  The kernel's run: the result array, sample by sample, from the two arguments.
-/
module

public import proofs.«01_k».proof.Proof.Host
public import Idealize.ShloMosaic.Lib.Pipeline.Value

@[expose] public section

set_option maxRecDepth 16384

noncomputable section

namespace Cert.Proof.KernelRun

open Idealize.ShloMosaic Idealize.ShloMosaic.TcCoe Idealize.SL.Sem Cert.KernelIdeal Cert.KernelIdeal.Gen
open Cert.Proof.Column Cert.Proof.Block Cert.Proof.Host Cert.Proof.Scalars
open Idealize.ShloMosaic.Pipeline (Dat)

/-- Padded frame `g`'s noise as a sequence: each sample `2 u − 1`. -/
def noise (u : Vec Ideal S32x4000x80 .f32) (b : Fin 32) (g a : ℕ) : EReal :=
  if h : a < 80 then padded u b g ⟨a, h⟩ * ((2 : ℝ) : EReal) - 1 else 0

/-- Padded frame `g`'s filter as a sequence: the table's rows times the frame's spectrum. -/
def filt (x : Vec Ideal S32x4000x257 .f32) (b : Fin 32) (g n : ℕ) : EReal :=
  if n < 513 then ∑ k : Fin 257, ((table n k.val : ℝ) : EReal) * padded x b g k else 0

/-- Sample `r` of frame `f`: the contributions of the frame and the seven before it. -/
def sample (x : Vec Ideal S32x4000x257 .f32) (u : Vec Ideal S32x4000x80 .f32) (b : Fin 32) (f r : ℕ) : EReal :=
  ∑ p : Fin 8, conv (noise u b (f + (8 - p.val))) (filt x b (f + (8 - p.val))) (80 * p.val + r)

variable (m : (ℓ : Loc nD τ sig) → Buf (Elt Ideal) ℓ) (ρ : Dev nD → PrngReg)

/-- The kernel's output array: batch, chunk, sample in the frame, frame in the chunk. -/
def blocks (c : Dev nD) : Vec Ideal S32x8x80x500 .f32 :=
  fun i => sample (argH m c) (argU m c) (i 0) (500 * (i 1).val + (i 3).val) (i 2).val

/-! ## The blocks of a grid point: batch `t / 8`, chunk `t % 8` -/

/-- Which block of its array each window reads or writes at a grid point. -/
theorem index0 : ∀ t : Fin grid0.N, win0_0.index t = ![0, 0] := by decide +kernel
theorem index1 : ∀ t : Fin grid0.N, win0_1.index t = ![t.val % 8, t.val / 8, 0, 0] := by decide +kernel
theorem index2 : ∀ t : Fin grid0.N, win0_2.index t = ![t.val % 8, t.val / 8, 0, 0] := by decide +kernel
theorem index3 : ∀ t : Fin grid0.N, win0_3.index t = ![t.val % 8, t.val / 8, 0, 0] := by decide +kernel
theorem index4 : ∀ t : Fin grid0.N, win0_4.index t = ![t.val % 8, t.val / 8, 0, 0] := by decide +kernel
theorem index5 : ∀ t : Fin grid0.N, win0_5.index t = ![t.val / 8, t.val % 8, 0, 0] := by decide +kernel

/-- The point's batch; -/
def batch (t : Fin cfg0.N) : Fin 32 := ⟨t.val / 8, by have : t.val < 256 := lt_of_lt_of_eq t.isLt N_0; omega⟩
/-- and its chunk. -/
def chunk (t : Fin cfg0.N) : Fin 8 := ⟨t.val % 8, by omega⟩

/-- Window 0's block, read off any array. -/
theorem read0_apply (A : Vec Ideal S513x257 .f32) (t : Fin cfg0.N) (r : Fin 513) (k : Fin 257) :
    (win0_0.blk t).view.read (Elt Ideal) A (ix2 r k) = A (ix2 r k) := by
  show A _ = _
  refine congrArg _ (funext fun a => Fin.ext ?_)
  have e := index0 t
  match a with
  | ⟨0, _⟩ => show win0_0.index t 0 * 513 + 1 * r.val = r.val; rw [e]; simp
  | ⟨1, _⟩ => show win0_0.index t 1 * 257 + 1 * k.val = k.val; rw [e]; simp

/-- Window 0's block of the array that the host code left. -/
theorem iblk0_apply (c : Dev nD) (t : Fin cfg0.N) (r : Fin 513) (k : Fin 257) :
    (iblk m c 0 t : Vec Ideal S513x257 .f32) (ix2 r k) = V m c main_v36 (ix2 r k) :=
  read0_apply (V m c main_v36) t r k

/-- Window 1's block, read off any array. -/
theorem read1_apply (A : Vec Ideal S8x32x257x500 .f32) (t : Fin cfg0.N) (k : Fin 257) (l : Fin 500) :
    (win0_1.blk t).view.read (Elt Ideal) A (ix4 0 0 k l) = A (ix4 (chunk t) (batch t) k l) := by
  show A _ = _
  refine congrArg _ (funext fun a => Fin.ext ?_)
  have e := index1 t
  match a with
  | ⟨0, _⟩ => show win0_1.index t 0 * 1 + 1 * 0 = t.val % 8; rw [e]; simp
  | ⟨1, _⟩ => show win0_1.index t 1 * 1 + 1 * 0 = t.val / 8; rw [e]; simp
  | ⟨2, _⟩ => show win0_1.index t 2 * 257 + 1 * k.val = k.val; rw [e]; simp
  | ⟨3, _⟩ => show win0_1.index t 3 * 500 + 1 * l.val = l.val; rw [e]; simp

/-- Window 1's block of the array that the host code left. -/
theorem iblk1_apply (c : Dev nD) (t : Fin cfg0.N) (k : Fin 257) (l : Fin 500) :
    (iblk m c 1 t : Vec Ideal S1x1x257x500 .f32) (ix4 0 0 k l) = V m c main_v38 (ix4 (chunk t) (batch t) k l) :=
  read1_apply (V m c main_v38) t k l

/-- Window 2's block, read off any array. -/
theorem read2_apply (A : Vec Ideal S8x32x257x8 .f32) (t : Fin cfg0.N) (k : Fin 257) (l : Fin 8) :
    (win0_2.blk t).view.read (Elt Ideal) A (ix4 0 0 k l) = A (ix4 (chunk t) (batch t) k l) := by
  show A _ = _
  refine congrArg _ (funext fun a => Fin.ext ?_)
  have e := index2 t
  match a with
  | ⟨0, _⟩ => show win0_2.index t 0 * 1 + 1 * 0 = t.val % 8; rw [e]; simp
  | ⟨1, _⟩ => show win0_2.index t 1 * 1 + 1 * 0 = t.val / 8; rw [e]; simp
  | ⟨2, _⟩ => show win0_2.index t 2 * 257 + 1 * k.val = k.val; rw [e]; simp
  | ⟨3, _⟩ => show win0_2.index t 3 * 8 + 1 * l.val = l.val; rw [e]; simp

/-- Window 2's block of the array that the host code left. -/
theorem iblk2_apply (c : Dev nD) (t : Fin cfg0.N) (k : Fin 257) (l : Fin 8) :
    (iblk m c 2 t : Vec Ideal S1x1x257x8 .f32) (ix4 0 0 k l) = V m c main_v45 (ix4 (chunk t) (batch t) k l) :=
  read2_apply (V m c main_v45) t k l

/-- Window 3's block, read off any array. -/
theorem read3_apply (A : Vec Ideal S8x32x80x500 .f32) (t : Fin cfg0.N) (k : Fin 80) (l : Fin 500) :
    (win0_3.blk t).view.read (Elt Ideal) A (ix4 0 0 k l) = A (ix4 (chunk t) (batch t) k l) := by
  show A _ = _
  refine congrArg _ (funext fun a => Fin.ext ?_)
  have e := index3 t
  match a with
  | ⟨0, _⟩ => show win0_3.index t 0 * 1 + 1 * 0 = t.val % 8; rw [e]; simp
  | ⟨1, _⟩ => show win0_3.index t 1 * 1 + 1 * 0 = t.val / 8; rw [e]; simp
  | ⟨2, _⟩ => show win0_3.index t 2 * 80 + 1 * k.val = k.val; rw [e]; simp
  | ⟨3, _⟩ => show win0_3.index t 3 * 500 + 1 * l.val = l.val; rw [e]; simp

/-- Window 3's block of the array that the host code left. -/
theorem iblk3_apply (c : Dev nD) (t : Fin cfg0.N) (k : Fin 80) (l : Fin 500) :
    (iblk m c 3 t : Vec Ideal S1x1x80x500 .f32) (ix4 0 0 k l) = V m c main_v40 (ix4 (chunk t) (batch t) k l) :=
  read3_apply (V m c main_v40) t k l

/-- Window 4's block, read off any array. -/
theorem read4_apply (A : Vec Ideal S8x32x80x8 .f32) (t : Fin cfg0.N) (k : Fin 80) (l : Fin 8) :
    (win0_4.blk t).view.read (Elt Ideal) A (ix4 0 0 k l) = A (ix4 (chunk t) (batch t) k l) := by
  show A _ = _
  refine congrArg _ (funext fun a => Fin.ext ?_)
  have e := index4 t
  match a with
  | ⟨0, _⟩ => show win0_4.index t 0 * 1 + 1 * 0 = t.val % 8; rw [e]; simp
  | ⟨1, _⟩ => show win0_4.index t 1 * 1 + 1 * 0 = t.val / 8; rw [e]; simp
  | ⟨2, _⟩ => show win0_4.index t 2 * 80 + 1 * k.val = k.val; rw [e]; simp
  | ⟨3, _⟩ => show win0_4.index t 3 * 8 + 1 * l.val = l.val; rw [e]; simp

/-- Window 4's block of the array that the host code left. -/
theorem iblk4_apply (c : Dev nD) (t : Fin cfg0.N) (k : Fin 80) (l : Fin 8) :
    (iblk m c 4 t : Vec Ideal S1x1x80x8 .f32) (ix4 0 0 k l) = V m c main_v50 (ix4 (chunk t) (batch t) k l) :=
  read4_apply (V m c main_v50) t k l

/-! ## One block -/

/-- A padded argument from the ninth frame on is the argument. -/
theorem padded_of_ge {d : ℕ} (x : (⟨3, ![32, 4000, d]⟩ : Shape).Idx → EReal) (b : Fin 32) (g : ℕ) (k : Fin d) (f : Fin 4000)
    (h : g = f.val + 8) : padded x b g k = x (ix3 b f k) := by
  have := f.isLt
  unfold padded
  rw [dif_pos (by omega)]
  congr 2
  exact Fin.ext (by show g - 8 = f.val; omega)

/-- The block's noise at column `l` is the noise of padded frame `500 i + l`. -/
theorem noise_block (c : Dev nD) (t : Fin cfg0.N) (l : Fin 508) :
    col (k0_pay2 (iblk m c 4 t) (iblk m c 3 t)) l = noise (argU m c) (batch t) (500 * (chunk t).val + l.val) := by
  funext a
  unfold noise
  by_cases ha : a < 80
  · rw [dif_pos ha]
    refine (noise_col _ _ l ⟨a, ha⟩).trans ?_
    by_cases hl : l.val < 8
    · rw [dif_pos hl, iblk4_apply, V_50]
    · rw [dif_neg hl, iblk3_apply, V_40]
      rw [padded_of_ge _ _ _ _ ⟨500 * (chunk t).val + (l.val - 8), by have := (chunk t).isLt; omega⟩ (by dsimp only; omega)]
  · rw [dif_neg ha, col_of_ge _ _ (by omega)]

/-- The block's filter at column `l` is the filter of padded frame `500 i + l`. -/
theorem filt_block (c : Dev nD) (t : Fin cfg0.N) (l : Fin 508) :
    col (k0_pay3 (iblk m c 2 t) (iblk m c 1 t) (iblk m c 0 t)) l
      = filt (argH m c) (batch t) (500 * (chunk t).val + l.val) := by
  funext n
  unfold filt
  by_cases hn : n < 513
  · rw [if_pos hn]
    refine (fir_col _ _ _ l ⟨n, hn⟩).trans (Finset.sum_congr rfl fun k _ => ?_)
    rw [iblk0_apply, V_36]
    by_cases hl : l.val < 8
    · rw [dif_pos hl, iblk2_apply, V_45]
    · rw [dif_neg hl, iblk1_apply, V_38]
      rw [padded_of_ge _ _ _ _ ⟨500 * (chunk t).val + (l.val - 8), by have := (chunk t).isLt; omega⟩ (by dsimp only; omega)]
  · rw [if_neg hn, fir_col_zero _ _ _ _ _ (by omega)]

/-- What grid point `t` writes back is its block of `blocks`. -/
theorem flushed_eq (c : Dev nD) (t : Fin cfg0.N) :
    (dats m 0 c).flushed 5 t = (win0_5.blk t).view.read (Elt Ideal) (blocks m c) := by
  show (cfg0.win 5).cut (grid0.coords t) ((dats m 0 c).after 5 t) = _
  rw [after0_5]
  funext y
  obtain ⟨r, l, rfl⟩ : ∃ (r : Fin 80) (l : Fin 500), y = ix4 (0 : Fin 1) (0 : Fin 1) r l :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  refine (out_apply _ _ _ _ _ r l).trans ?_
  have hidx (A : Vec Ideal S32x8x80x500 .f32) : (win0_5.blk t).view.read (Elt Ideal) A (ix4 (0 : Fin 1) (0 : Fin 1) r l)
      = A (ix4 (batch t) (chunk t) r l) := by
    show A _ = _
    refine congrArg _ (funext fun a => Fin.ext ?_)
    have e := index5 t
    match a with
    | ⟨0, _⟩ => show win0_5.index t 0 * 1 + 1 * 0 = t.val / 8; rw [e]; simp
    | ⟨1, _⟩ => show win0_5.index t 1 * 1 + 1 * 0 = t.val % 8; rw [e]; simp
    | ⟨2, _⟩ => show win0_5.index t 2 * 80 + 1 * r.val = r.val; rw [e]; simp
    | ⟨3, _⟩ => show win0_5.index t 3 * 500 + 1 * l.val = l.val; rw [e]; simp
  refine Eq.trans ?_ (hidx _).symm
  show _ = sample (argH m c) (argU m c) (batch t) (500 * (chunk t).val + l.val) r.val
  unfold sample
  refine Finset.sum_congr rfl fun p _ => ?_
  rw [noise_block, filt_block]
  have e : 500 * (chunk t).val + (lane p l).val = 500 * (chunk t).val + l.val + (8 - p.val) := by
    show _ + (8 - p.val + l.val) = _; omega
  rw [e]

/-- An index of the output array is in point `t`'s block when its batch and chunk are the point's. -/
theorem mem_blk (t : Fin cfg0.N) (i : S32x8x80x500.Idx) (h0 : (i 0).val = t.val / 8) (h1 : (i 1).val = t.val % 8) :
    i ∈ ((cfg0.win 5).blk t).view.set := by
  show i ∈ ((View.whole main_v51).slice (win0_5.rect t)).set
  rw [View.set_slice_whole, Rect.mem_set_unit]
  have e := index5 t
  have h2 : (i 2).val < 80 := (i 2).isLt
  have h3 : (i 3).val < 500 := (i 3).isLt
  intro a
  match a with
  | ⟨0, _⟩ => show win0_5.index t 0 * 1 ≤ (i 0).val ∧ (i 0).val < win0_5.index t 0 * 1 + 1; rw [e]; simp; omega
  | ⟨1, _⟩ => show win0_5.index t 1 * 1 ≤ (i 1).val ∧ (i 1).val < win0_5.index t 1 * 1 + 1; rw [e]; simp; omega
  | ⟨2, _⟩ => show win0_5.index t 2 * 80 ≤ (i 2).val ∧ (i 2).val < win0_5.index t 2 * 80 + 80; rw [e]; simp; omega
  | ⟨3, _⟩ => show win0_5.index t 3 * 500 ≤ (i 3).val ∧ (i 3).val < win0_5.index t 3 * 500 + 500; rw [e]; simp; omega

/-- The blocks cover the output array. -/
theorem cover (i : S32x8x80x500.Idx) :
    ∃ t : Fin cfg0.N, (cfg0.win 5).flush t = true ∧ i ∈ ((cfg0.win 5).blk t).view.set := by
  have h0 : (i 0).val < 32 := (i 0).isLt
  have h1 : (i 1).val < 8 := (i 1).isLt
  have hN : cfg0.N = 256 := N_0
  refine ⟨⟨8 * (i 0).val + (i 1).val, by omega⟩, flush0_5 _, mem_blk _ _ ?_ ?_⟩ <;> dsimp only <;> omega

/-- So the output array ends at `blocks`. -/
theorem final_o (c : Dev nD) : (dats m 0 c).arrAt 5 cfg0.N = blocks m c :=
  (dats m 0 c).arrAt_eq_of_cover 5 (blocks m c) (fun t _ => flushed_eq m c t) cover

/-! ## The result: the output array transposed and flattened -/

/-- The result array: sample `s` of batch `b` is sample `s % 80` of frame `s / 80`. -/
def result (x : Vec Ideal S32x4000x257 .f32) (u : Vec Ideal S32x4000x80 .f32) : Vec Ideal S32x320000 .f32 :=
  fun i => sample x u (i 0) ((i 1).val / 80) ((i 1).val % 80)

/-- After the host operations that follow the call, the result array is `result` of the two arguments. -/
theorem tail_eq (c : Dev nD) :
    Pipeline.afterTail₀ cfgs (dats m) 0 (V0 m) [hostOps1] c main_v53 = result (argH m c) (argU m c) := by
  unfold Pipeline.afterTail₀
  have e : Pipeline.withArrays (cfgs 0).spec c (V0 m c) (fun w => (dats m 0 c).arrAt w (cfgs 0).N) (Proc.devRef .tc main_v51)
      = blocks m c := (Pipeline.withArrays_arr (cfgs 0).spec (by decide) c _ _ 5).trans (final_o m c)
  generalize Pipeline.withArrays (cfgs 0).spec c (V0 m c) (fun w => (dats m 0 c).arrAt w (cfgs 0).N) = W at e ⊢
  simp only [hostOps1, List.flatten_cons, List.flatten_nil, List.append_nil, List.cons_append, List.nil_append]
  after_results_simp
  rw [e]
  funext i
  have h1 : (i 1).val < 320000 := (i 1).isLt
  refine (shapeCast_apply (s := S32x8x500x80) (t := S32x320000) _ _ i (ix4 (i 0) ⟨(i 1).val / 40000, by omega⟩ ⟨(i 1).val / 80 % 500, by omega⟩ ⟨(i 1).val % 80, by omega⟩) ?_).trans ?_
  · rw [Shape.rowMajor_val_two, Shape.rowMajor_val_four]
    show (((i 0).val * 8 + (i 1).val / 40000) * 500 + (i 1).val / 80 % 500) * 80 + (i 1).val % 80 = (i 0).val * 320000 + (i 1).val
    omega
  · have ht (A : Vec Ideal S32x8x80x500 .f32) (b : Fin 32) (q : Fin 8) (l : Fin 500) (r : Fin 80) :
        transpose S32x8x500x80 [0, 1, 3, 2] A transposes_S32x8x80x500_S32x8x500x80_0_1_3_2 (ix4 b q l r) = A (ix4 b q r l) := by
      pointwise
    refine (ht _ _ _ _ _).trans ?_
    show sample _ _ (i 0) (500 * ((i 1).val / 40000) + (i 1).val / 80 % 500) ((i 1).val % 80) = sample _ _ (i 0) ((i 1).val / 80) ((i 1).val % 80)
    rw [show 500 * ((i 1).val / 40000) + (i 1).val / 80 % 500 = (i 1).val / 80 by omega]

/-- The run: the result array at `result`, the arguments unchanged. -/
theorem run : θ_run defs (onTc (τ := τ) (main (F := Ideal))) ⟨m, fun _ => 0, ρ⟩ fun r => ∀ c : Dev nD,
      r.2.mem ((c : Thread nD τ).loc main_v53) = result (argH m c) (argU m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v53 (Pipeline.mem_restRefs_of main_v53 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelRun
-- ==== Proof.Scatter.lean ====
/-
  A scatter-add of scalars along the last axis, read at one element as a sum, at any sizes.
-/
module

public import Idealize.ShloMosaic.Lib.Routing.OpsPair
public import Idealize.ShloMosaic.Lib.Pointwise
public import Idealize.ShloMosaic.Lib.IdealHost

@[expose] public section

noncomputable section

namespace Cert.Proof.Scatter

open Idealize.ShloMosaic Idealize.ShloMosaic.Routing

variable {B T M K w : ℕ}

/-- Update `(b, k)` of a matrix of updates lands in row `b`, at the column that word `k` holds. -/
theorem lands_two (h : ScatterDims.WF (shape2 B M) (shape2 K 1) (shape2 B K) [0] [1] [1] 1) (idx : IVec (shape2 K 1) w)
    (b b' : Fin B) (k : Fin K) (n : Fin M) :
    (⟨[0], [1], [1], 1, h⟩ : ScatterDims (shape2 B M) (shape2 K 1) (shape2 B K)).resultIdx? (ix2 b k) idx = some (ix2 b' n)
      ↔ b = b' ∧ (idx (ix2 k 0)).toInt = n.val := by
  set d : ScatterDims (shape2 B M) (shape2 K 1) (shape2 B K) := ⟨[0], [1], [1], 1, h⟩ with hd
  have hs0 : d.start (ix2 b k) idx 0 = 0 := rfl
  have hw0 : d.window (ix2 b k) 0 = b.val := rfl
  have hw1 : d.window (ix2 b k) 1 = 0 := rfl
  have hs1 : d.start (ix2 b k) idx 1 = (idx (ix2 k 0)).toInt := by
    show (idx _).toInt = _
    congr 2
    funext a
    match a with
    | ⟨0, _⟩ => rfl
    | ⟨1, _⟩ => rfl
  rw [resultIdx?_eq_some]
  constructor
  · intro q
    have q0 : _ = ((b'.val : ℕ) : ℤ) := q 0
    have q1 : _ = ((n.val : ℕ) : ℤ) := q 1
    rw [hs0, hw0] at q0
    rw [hs1, hw1] at q1
    rw [Fin.ext_iff]
    omega
  · rintro ⟨rfl, q⟩ a
    match a with
    | ⟨0, _⟩ => show d.start (ix2 b k) idx 0 + (d.window (ix2 b k) 0 : ℤ) = b.val; rw [hs0, hw0]; omega
    | ⟨1, _⟩ => show d.start (ix2 b k) idx 1 + (d.window (ix2 b k) 1 : ℤ) = n.val; rw [hs1, hw1, q]; omega

/-- Update `(b, t, k)` of an array of updates lands in row `(b, t)`, at the place that word `k` holds. -/
theorem lands_three (h : ScatterDims.WF (shape3 B T M) (shape2 K 1) (shape3 B T K) [0, 1] [2] [2] 1) (idx : IVec (shape2 K 1) w)
    (b b' : Fin B) (t t' : Fin T) (k : Fin K) (n : Fin M) :
    (⟨[0, 1], [2], [2], 1, h⟩ : ScatterDims (shape3 B T M) (shape2 K 1) (shape3 B T K)).resultIdx? (ix3 b t k) idx = some (ix3 b' t' n)
      ↔ b = b' ∧ t = t' ∧ (idx (ix2 k 0)).toInt = n.val := by
  set d : ScatterDims (shape3 B T M) (shape2 K 1) (shape3 B T K) := ⟨[0, 1], [2], [2], 1, h⟩ with hd
  have hs0 : d.start (ix3 b t k) idx 0 = 0 := rfl
  have hs1 : d.start (ix3 b t k) idx 1 = 0 := rfl
  have hw0 : d.window (ix3 b t k) 0 = b.val := rfl
  have hw1 : d.window (ix3 b t k) 1 = t.val := rfl
  have hw2 : d.window (ix3 b t k) 2 = 0 := rfl
  have hs2 : d.start (ix3 b t k) idx 2 = (idx (ix2 k 0)).toInt := by
    show (idx _).toInt = _
    congr 2
    funext a
    match a with
    | ⟨0, _⟩ => rfl
    | ⟨1, _⟩ => rfl
  rw [resultIdx?_eq_some]
  constructor
  · intro q
    have q0 : _ = ((b'.val : ℕ) : ℤ) := q 0
    have q1 : _ = ((t'.val : ℕ) : ℤ) := q 1
    have q2 : _ = ((n.val : ℕ) : ℤ) := q 2
    rw [hs0, hw0] at q0
    rw [hs1, hw1] at q1
    rw [hs2, hw2] at q2
    rw [Fin.ext_iff, Fin.ext_iff]
    omega
  · rintro ⟨rfl, rfl, q⟩ a
    match a with
    | ⟨0, _⟩ => show d.start (ix3 b t k) idx 0 + (d.window (ix3 b t k) 0 : ℤ) = b.val; rw [hs0, hw0]; omega
    | ⟨1, _⟩ => show d.start (ix3 b t k) idx 1 + (d.window (ix3 b t k) 1 : ℤ) = t.val; rw [hs1, hw1]; omega
    | ⟨2, _⟩ => show d.start (ix3 b t k) idx 2 + (d.window (ix3 b t k) 2 : ℤ) = n.val; rw [hs2, hw2, q]; omega

/-- A scatter-add into the rows of a zero matrix: element `(b, n)` is the sum of row `b`'s updates whose word is `n`. -/
theorem add_two (h : ScatterDims.WF (shape2 B M) (shape2 K 1) (shape2 B K) [0] [1] [1] 1) (x : FVec Ideal (shape2 B M) .f32)
    (idx : IVec (shape2 K 1) w) (upd : FVec Ideal (shape2 B K) .f32) (b : Fin B) (n : Fin M) :
    Host.scatterAdd (F := Ideal) (⟨[0], [1], [1], 1, h⟩ : ScatterDims (shape2 B M) (shape2 K 1) (shape2 B K)) x idx upd (ix2 b n)
      = x (ix2 b n) + ∑ k : Fin K, if (idx (ix2 k 0)).toInt = n.val then upd (ix2 b k) else 0 := by
  show x (ix2 b n) + ∑ j ∈ Finset.univ.filter (fun j => _), upd j = _
  congr 1
  rw [← Finset.sum_filter]
  refine (Finset.sum_nbij' (s := Finset.univ.filter fun k : Fin K => (idx (ix2 k 0)).toInt = n.val) (f := fun k => upd (ix2 b k))
    (fun k => ix2 b k) (fun j => j 1) ?_ ?_ ?_ ?_ ?_).symm
  · intro k hk
    rw [Finset.mem_filter] at hk ⊢
    exact ⟨Finset.mem_univ _, (lands_two h idx b b k n).2 ⟨rfl, hk.2⟩⟩
  · intro j hj
    rw [Finset.mem_filter] at hj
    obtain ⟨b', k, rfl⟩ : ∃ (b' : Fin B) (k : Fin K), j = ix2 b' k := ⟨j 0, j 1, by funext a; match a with | ⟨0, _⟩ => rfl | ⟨1, _⟩ => rfl⟩
    exact Finset.mem_filter.2 ⟨Finset.mem_univ _, ((lands_two h idx b' b k n).1 hj.2).2⟩
  · intro k _; rfl
  · intro j hj
    rw [Finset.mem_filter] at hj
    obtain ⟨b', k, rfl⟩ : ∃ (b' : Fin B) (k : Fin K), j = ix2 b' k := ⟨j 0, j 1, by funext a; match a with | ⟨0, _⟩ => rfl | ⟨1, _⟩ => rfl⟩
    rw [((lands_two h idx b' b k n).1 hj.2).1]
    rfl
  · intro k _; rfl

/-- A scatter-add into the rows of an array: element `(b, t, n)` is the sum of row `(b, t)`'s updates whose word is `n`. -/
theorem add_three (h : ScatterDims.WF (shape3 B T M) (shape2 K 1) (shape3 B T K) [0, 1] [2] [2] 1) (x : FVec Ideal (shape3 B T M) .f32)
    (idx : IVec (shape2 K 1) w) (upd : FVec Ideal (shape3 B T K) .f32) (b : Fin B) (t : Fin T) (n : Fin M) :
    Host.scatterAdd (F := Ideal) (⟨[0, 1], [2], [2], 1, h⟩ : ScatterDims (shape3 B T M) (shape2 K 1) (shape3 B T K)) x idx upd (ix3 b t n)
      = x (ix3 b t n) + ∑ k : Fin K, if (idx (ix2 k 0)).toInt = n.val then upd (ix3 b t k) else 0 := by
  show x (ix3 b t n) + ∑ j ∈ Finset.univ.filter (fun j => _), upd j = _
  congr 1
  rw [← Finset.sum_filter]
  have split (j : (shape3 B T K).Idx) : ∃ (b' : Fin B) (t' : Fin T) (k : Fin K), j = ix3 b' t' k :=
    ⟨j 0, j 1, j 2, by funext a; match a with | ⟨0, _⟩ => rfl | ⟨1, _⟩ => rfl | ⟨2, _⟩ => rfl⟩
  refine (Finset.sum_nbij' (s := Finset.univ.filter fun k : Fin K => (idx (ix2 k 0)).toInt = n.val) (f := fun k => upd (ix3 b t k))
    (fun k => ix3 b t k) (fun j => j 2) ?_ ?_ ?_ ?_ ?_).symm
  · intro k hk
    rw [Finset.mem_filter] at hk ⊢
    exact ⟨Finset.mem_univ _, (lands_three h idx b b t t k n).2 ⟨rfl, rfl, hk.2⟩⟩
  · intro j hj
    rw [Finset.mem_filter] at hj
    obtain ⟨b', t', k, rfl⟩ := split j
    exact Finset.mem_filter.2 ⟨Finset.mem_univ _, ((lands_three h idx b' b t' t k n).1 hj.2).2.2⟩
  · intro k _; rfl
  · intro j hj
    rw [Finset.mem_filter] at hj
    obtain ⟨b', t', k, rfl⟩ := split j
    obtain ⟨rfl, rfl, _⟩ := (lands_three h idx b' b t' t k n).1 hj.2
    rfl
  · intro k _; rfl

end Cert.Proof.Scatter
-- ==== Proof.RefValue.lean ====
/-
  The reference, read at an index: its noise, its filter, its convolution and its overlap-add.
-/
module

public import proofs.«01_k».proof.Proof.Gen.ReferenceIdeal.Run
public import proofs.«01_k».proof.Proof.Scatter
public import proofs.«01_k».proof.Proof.Scalars
public import Idealize.ShloMosaic.Lib.Routing.Ops

@[expose] public section

set_option maxRecDepth 16384

noncomputable section

namespace Cert.Proof.RefValue

open Idealize.ShloMosaic Idealize.ShloMosaic.TcCoe Idealize.SL.Sem Cert.ReferenceIdeal Cert.ReferenceIdeal.Gen Cert.Proof.Scalars

/-- Where each sample of each filtered frame goes, `80 t + n`, before jnp's wrap of a negative index. -/
def rawF : IVec S2368000 32 := (shapeCast _ (addi (broadcastInDim S4000x592 ![0, 1] bcast_S4000x1_S4000x592_0_1 (muli (broadcastInDim S4000x1 ![0] bcast_S4000_S4000x1_0 (iotaInDim S4000 32 0)) (broadcastInDim S4000x1 ![] bcast_S_S4000x1 (constantI S_ 32 80#32)))) (broadcastInDim S4000x592 ![0, 1] bcast_S1x592_S4000x592_0_1 (broadcastInDim S1x592 ![1] bcast_S592_S1x592_1 (iotaInDim S592 32 0)))) shapeCasts_S4000x592_S2368000)

/-- Where each product goes, `a + m`, before jnp's wrap of a negative index. -/
def rawT : IVec S41040 32 := (shapeCast _ (addi (broadcastInDim S80x513 ![0, 1] bcast_S80x1_S80x513_0_1 (broadcastInDim S80x1 ![0] bcast_S80_S80x1_0 (iotaInDim S80 32 0))) (broadcastInDim S80x513 ![0, 1] bcast_S1x513_S80x513_0_1 (broadcastInDim S1x513 ![1] bcast_S513_S1x513_1 (iotaInDim S513 32 0)))) shapeCasts_S80x513_S41040)

/-- The index words of the overlap-add. -/
def frames : IVec S2368000x1 32 := (broadcastInDim S2368000x1 ![0] bcast_S2368000_S2368000x1_0 (select (cmpi .slt rawF (broadcastInDim S2368000 ![] bcast_S_S2368000 (constantI S_ 32 0#32))) (addi rawF (broadcastInDim S2368000 ![] bcast_S_S2368000 (constantI S_ 32 320512#32))) rawF))

/-- The index words of the convolution. -/
def taps : IVec S41040x1 32 := (broadcastInDim S41040x1 ![0] bcast_S41040_S41040x1_0 (select (cmpi .slt rawT (broadcastInDim S41040 ![] bcast_S_S41040 (constantI S_ 32 0#32))) (addi rawT (broadcastInDim S41040 ![] bcast_S_S41040 (constantI S_ 32 592#32))) rawT))

/-- The reference's noise. -/
def noiseR (u : FVec Ideal S32x4000x80 .f32) : FVec Ideal S32x4000x80 .f32 := (subf (mulf u (broadcastInDim S32x4000x80 ![] bcast_S_S32x4000x80 (constant S_ .f32 0x40000000#32))) (broadcastInDim S32x4000x80 ![] bcast_S_S32x4000x80 (constant S_ .f32 0x3F800000#32)))

/-- The reference's table of cosines. -/
def cosines : FVec Ideal S513x256 .f32 := (Host.cos (Host.divf (mulf (broadcastInDim S513x256 ![] bcast_S_S513x256 (mulf (constant S_ .f32 0x40000000#32) (Host.acos (constant S_ .f32 0xBF800000#32)))) (sitofp .f32 (muli (broadcastInDim S513x256 ![0, 1] bcast_S513x1_S513x256_0_1 (broadcastInDim S513x1 ![0] bcast_S513_S513x1_0 (iotaInDim S513 32 0))) (broadcastInDim S513x256 ![0, 1] bcast_S1x256_S513x256_0_1 (broadcastInDim S1x256 ![1] bcast_S256_S1x256_1 (addi (broadcastInDim S256 ![] bcast_S_S256 (constantI S_ 32 1#32)) (iotaInDim S256 32 0))))))) (broadcastInDim S513x256 ![] bcast_S_S513x256 (constant S_ .f32 0x44004000#32))))

/-- The reference's inverse transform of the spectra. -/
def zeroPhase (x : FVec Ideal S32x4000x257 .f32) : FVec Ideal S32x4000x513 .f32 := (Host.divf (addf (broadcastInDim S32x4000x513 ![0, 1, 2] bcast_S32x4000x1_S32x4000x513_0_1_2 (extractStridedSlice S32x4000x1 ![0, 0, 0] x slices_S32x4000x257_S32x4000x1_0_0_0)) (mulf (broadcastInDim S32x4000x513 ![] bcast_S_S32x4000x513 (constant S_ .f32 0x40000000#32)) (Host.dotGeneral dot_S32x4000x256_S513x256_S32x4000x513_2_1_01_0_n_n none (extractStridedSlice S32x4000x256 ![0, 0, 1] x slices_S32x4000x257_S32x4000x256_0_0_1) cosines))) (broadcastInDim S32x4000x513 ![] bcast_S_S32x4000x513 (constant S_ .f32 0x44004000#32)))

/-- The reference's filter: the inverse transform rolled by 256 places, times the window. -/
def firR (x : FVec Ideal S32x4000x257 .f32) : FVec Ideal S32x4000x513 .f32 := (mulf (concatenate S32x4000x513 2 [⟨S32x4000x256, (extractStridedSlice S32x4000x256 ![0, 0, 257] (zeroPhase x) slices_S32x4000x513_S32x4000x256_0_0_257)⟩, ⟨S32x4000x257, (extractStridedSlice S32x4000x257 ![0, 0, 0] (zeroPhase x) slices_S32x4000x513_S32x4000x257_0_0_0)⟩] concatenates_S32x4000x256_S32x4000x257_S32x4000x513_d2) (broadcastInDim S32x4000x513 ![0, 1, 2] bcast_S1x1x513_S32x4000x513_0_1_2 (broadcastInDim S1x1x513 ![2] bcast_S513_S1x1x513_2 (mulf (broadcastInDim S513 ![] bcast_S_S513 (constant S_ .f32 0x3F000000#32)) (subf (broadcastInDim S513 ![] bcast_S_S513 (constant S_ .f32 0x3F800000#32)) (Host.cos (Host.divf (mulf (broadcastInDim S513 ![] bcast_S_S513 (mulf (constant S_ .f32 0x40000000#32) (Host.acos (constant S_ .f32 0xBF800000#32)))) (sitofp .f32 (iotaInDim S513 32 0))) (broadcastInDim S513 ![] bcast_S_S513 (constant S_ .f32 0x44004000#32)))))))))

/-- The reference's products of a noise sample and a filter tap. -/
def prodR (x : FVec Ideal S32x4000x257 .f32) (u : FVec Ideal S32x4000x80 .f32) : FVec Ideal S32x4000x80x513 .f32 := (mulf (broadcastInDim S32x4000x80x513 ![0, 1, 2, 3] bcast_S32x4000x80x1_S32x4000x80x513_0_1_2_3 (broadcastInDim S32x4000x80x1 ![0, 1, 2] bcast_S32x4000x80_S32x4000x80x1_0_1_2 (noiseR u))) (broadcastInDim S32x4000x80x513 ![0, 1, 2, 3] bcast_S32x4000x1x513_S32x4000x80x513_0_1_2_3 (broadcastInDim S32x4000x1x513 ![0, 1, 3] bcast_S32x4000x513_S32x4000x1x513_0_1_3 (firR x))))

/-- The reference's filtered frames. -/
def filteredR (x : FVec Ideal S32x4000x257 .f32) (u : FVec Ideal S32x4000x80 .f32) : FVec Ideal S32x4000x592 .f32 := (Host.scatterAdd scatter_S32x4000x592_S41040x1_S32x4000x41040_01_2_2_1 (broadcastInDim S32x4000x592 ![] bcast_S_S32x4000x592 (constant S_ .f32 0x00000000#32)) taps (shapeCast _ (prodR x u) shapeCasts_S32x4000x80x513_S32x4000x41040))

/-- The reference's result. -/
def outR (x : FVec Ideal S32x4000x257 .f32) (u : FVec Ideal S32x4000x80 .f32) : FVec Ideal S32x320000 .f32 := extractStridedSlice S32x320000 ![0, 0] (Host.scatterAdd scatter_S32x320512_S2368000x1_S32x2368000_0_1_1_1 (broadcastInDim S32x320512 ![] bcast_S_S32x320512 (constant S_ .f32 0x00000000#32)) frames (shapeCast _ (filteredR x u) shapeCasts_S32x4000x592_S32x2368000)) slices_S32x320512_S32x320000_0_0

/-- The result array of the reference is `outR` of its two arguments. -/
theorem res_eq (m : (ℓ : Loc nD τ sig) → Buf (Elt Ideal) ℓ) (c : Dev nD) :
    Value.res_main_v85 (F := Ideal) m c = outR (m ((c.tc : Thread nD τ).loc main_arg0)) (m ((c.tc : Thread nD τ).loc main_arg1)) := rfl

/-- A counter below `2 ^ 31`, read signed. -/
theorem toInt_ofNat {n : ℕ} (h : n < 2 ^ 31) : (BitVec.ofNat 32 n).toInt = (n : ℤ) := by
  rw [BitVec.toInt_eq_toNat_of_lt] <;> rw [BitVec.toNat_ofNat, Nat.mod_eq_of_lt] <;> omega

/-- The overlap-add's place of flat position `k`, as a word. -/
theorem rawF_word (k : Fin 2368000) : rawF (ix1 k) = BitVec.ofNat 32 (80 * (k.val / 592) + k.val % 592) := by
  unfold rawF
  refine (Routing.cast21 _ _ (⟨k.val / 592, by omega⟩ : Fin 4000) (⟨k.val % 592, by omega⟩ : Fin 592) k (by show k.val = k.val / 592 * 592 + k.val % 592; omega)).trans ?_
  pointwise
  show BitVec.ofNat 32 (k.val / 592) * BitVec.ofNat 32 80 + BitVec.ofNat 32 (k.val % 592) = _
  rw [BitVec.ofNat_add, Nat.mul_comm 80, BitVec.ofNat_mul]

/-- The convolution's place of flat position `k`, as a word. -/
theorem rawT_word (k : Fin 41040) : rawT (ix1 k) = BitVec.ofNat 32 (k.val / 513 + k.val % 513) := by
  unfold rawT
  refine (Routing.cast21 _ _ (⟨k.val / 513, by omega⟩ : Fin 80) (⟨k.val % 513, by omega⟩ : Fin 513) k (by show k.val = k.val / 513 * 513 + k.val % 513; omega)).trans ?_
  pointwise
  show BitVec.ofNat 32 (k.val / 513) + BitVec.ofNat 32 (k.val % 513) = _
  rw [BitVec.ofNat_add]

/-- The place of sample `k % 592` of frame `k / 592` in the overlap-add. -/
theorem frames_word (k : Fin 2368000) : (frames (ix2 k 0)).toInt = ((80 * (k.val / 592) + k.val % 592 : ℕ) : ℤ) := by
  have hw := rawF_word k
  unfold frames
  generalize rawF = A at hw ⊢
  pointwise
  rw [hw]
  have hk := k.isLt
  rw [Routing.wrap_of_lt _ _ (by rw [BitVec.toNat_ofNat, Nat.mod_eq_of_lt] <;> omega), toInt_ofNat (by omega)]

/-- The place of the product of noise sample `k / 513` and tap `k % 513` in the convolution. -/
theorem taps_word (k : Fin 41040) : (taps (ix2 k 0)).toInt = ((k.val / 513 + k.val % 513 : ℕ) : ℤ) := by
  have hw := rawT_word k
  unfold taps
  generalize rawT = A at hw ⊢
  pointwise
  rw [hw]
  have hk := k.isLt
  rw [Routing.wrap_of_lt _ _ (by rw [BitVec.toNat_ofNat, Nat.mod_eq_of_lt] <;> omega), toInt_ofNat (by omega)]

/-- The reference's noise at an index. -/
theorem noiseR_apply (u : FVec Ideal S32x4000x80 .f32) (b : Fin 32) (t : Fin 4000) (a : Fin 80) :
    noiseR u (ix3 b t a) = u (ix3 b t a) * ((2 : ℝ) : EReal) - 1 := by
  pointwise [noiseR]
  rw [ofBits_two]

/-- The table of cosines at an index, over the reals. -/
theorem cosines_apply (n : Fin 513) (k : Fin 256) :
    cosines (ix2 n k) = ((Real.cos (2 * Real.pi * ((n.val * (k.val + 1) : ℕ) : ℝ) / 513) : ℝ) : EReal) := by
  pointwise [cosines]
  have e : IntOp.muli (BitVec.ofNat 32 n.val) (IntOp.addi (1#32) (BitVec.ofNat 32 k.val)) = BitVec.ofNat 32 (n.val * (k.val + 1)) := by
    show BitVec.ofNat 32 n.val * (BitVec.ofNat 32 1 + BitVec.ofNat 32 k.val) = _
    rw [← BitVec.ofNat_add, ← BitVec.ofNat_mul, Nat.add_comm]
  have hb : n.val * (k.val + 1) < 2 ^ 31 :=
    (Nat.mul_le_mul n.isLt.le k.isLt).trans_lt (by norm_num)
  rw [e, acos_neg_one, ofBits_two, ofBits_513, sitofp_ofNat hb, ← EReal.coe_mul, ← EReal.coe_mul, div_real _ (by norm_num), Ideal.cos_coe]

/-- The inverse transform at an index: a sum of cosines, divided by 513. -/
theorem zeroPhase_apply (x : FVec Ideal S32x4000x257 .f32) (b : Fin 32) (t : Fin 4000) (n : Fin 513) :
    zeroPhase x (ix3 b t n) = Ideal.div (x (ix3 b t 0) + ((2 : ℝ) : EReal) * ∑ k : Fin 256, x (ix3 b t k.succ)
      * ((Real.cos (2 * Real.pi * ((n.val * (k.val + 1) : ℕ) : ℝ) / 513) : ℝ) : EReal)) ((513 : ℝ) : EReal) := by
  simp only [← cosines_apply]
  unfold zeroPhase
  generalize cosines = A
  pointwise
  rw [ofBits_two, ofBits_513]
  simp only [Nat.add_comm 1]
  rfl

/-- The filter at an index: the roll moves place `n` to `n + 257` modulo 513. -/
theorem firR_apply (x : FVec Ideal S32x4000x257 .f32) (b : Fin 32) (t : Fin 4000) (n : Fin 513) :
    firR x (ix3 b t n) = zeroPhase x (ix3 b t ⟨(n.val + 257) % 513, by omega⟩) * ((hann n.val : ℝ) : EReal) := by
  unfold firR
  generalize zeroPhase x = A
  pointwise
  rw [hann_eq _ (by omega)]
  congr 1
  split
  · congr 3; omega
  · congr 3; omega

/-- One product of a noise sample and a filter tap. -/
theorem prodR_apply (x : FVec Ideal S32x4000x257 .f32) (u : FVec Ideal S32x4000x80 .f32) (b : Fin 32) (t : Fin 4000) (a : Fin 80) (n : Fin 513) :
    prodR x u (ix4 b t a n) = noiseR u (ix3 b t a) * firR x (ix3 b t n) := by
  unfold prodR
  generalize noiseR u = A
  generalize firR x = B
  pointwise

/-- The reference's convolution: the products whose places add up to `n`. -/
theorem filteredR_apply (x : FVec Ideal S32x4000x257 .f32) (u : FVec Ideal S32x4000x80 .f32) (b : Fin 32) (t : Fin 4000) (n : Fin 592) :
    filteredR x u (ix3 b t n) = ∑ k : Fin 41040, if k.val / 513 + k.val % 513 = n.val then
      noiseR u (ix3 b t ⟨k.val / 513, by omega⟩) * firR x (ix3 b t ⟨k.val % 513, by omega⟩) else 0 := by
  unfold filteredR
  rw [show scatter_S32x4000x592_S41040x1_S32x4000x41040_01_2_2_1 = ⟨[0, 1], [2], [2], 1, scatter_S32x4000x592_S41040x1_S32x4000x41040_01_2_2_1_wf⟩ from rfl]
  refine (Scatter.add_three _ _ _ _ b t n).trans ?_
  rw [show (broadcastInDim S32x4000x592 ![] bcast_S_S32x4000x592 (constant S_ .f32 0x00000000#32) : FVec Ideal S32x4000x592 .f32) (ix3 b t n) = 0 by pointwise, zero_add]
  refine Finset.sum_congr rfl fun k _ => ?_
  rw [taps_word, ← prodR_apply]
  refine if_congr (by omega) ?_ rfl
  refine shapeCast_apply (s := S32x4000x80x513) (t := S32x4000x41040) _ _ _ _ ?_
  rw [Shape.rowMajor_val_four, Shape.rowMajor_val_three]
  show ((b.val * 4000 + t.val) * 80 + k.val / 513) * 513 + k.val % 513 = (b.val * 4000 + t.val) * 41040 + k.val
  omega

/-- The reference's overlap-add: the samples of the filtered frames whose places are `s`. -/
theorem outR_apply (x : FVec Ideal S32x4000x257 .f32) (u : FVec Ideal S32x4000x80 .f32) (b : Fin 32) (s : Fin 320000) :
    outR x u (ix2 b s) = ∑ k : Fin 2368000, if 80 * (k.val / 592) + k.val % 592 = s.val then
      filteredR x u (ix3 b ⟨k.val / 592, by omega⟩ ⟨k.val % 592, by omega⟩) else 0 := by
  unfold outR
  rw [show scatter_S32x320512_S2368000x1_S32x2368000_0_1_1_1 = ⟨[0], [1], [1], 1, scatter_S32x320512_S2368000x1_S32x2368000_0_1_1_1_wf⟩ from rfl]
  generalize filteredR x u = A
  refine (extractStridedSlice_apply _ _ _ _ (ix2 b (⟨s.val, by omega⟩ : Fin 320512)) ?_).trans ?_
  · intro a
    match a with
    | ⟨0, _⟩ => show b.val = 0 + b.val; omega
    | ⟨1, _⟩ => show s.val = 0 + s.val; omega
  refine (Scatter.add_two _ _ _ _ b _).trans ?_
  rw [show (broadcastInDim S32x320512 ![] bcast_S_S32x320512 (constant S_ .f32 0x00000000#32) : FVec Ideal S32x320512 .f32) (ix2 b (⟨s.val, by omega⟩ : Fin 320512)) = 0 by pointwise, zero_add]
  refine Finset.sum_congr rfl fun k _ => ?_
  rw [frames_word]
  refine if_congr (by show ((_ : ℕ) : ℤ) = ((s.val : ℕ) : ℤ) ↔ _; omega) ?_ rfl
  refine shapeCast_apply (s := S32x4000x592) (t := S32x2368000) _ _ _ _ ?_
  rw [Shape.rowMajor_val_three, Shape.rowMajor_val_two]
  show (b.val * 4000 + k.val / 592) * 592 + k.val % 592 = b.val * 2368000 + k.val
  omega

end Cert.Proof.RefValue
-- ==== Proof.Sums.lean ====
/-
  The rearrangements of sums that join the two programs: a flat sum over pairs, the pairs with a given place, and the
  overlap of frames; and the one distribution of a factor over a sum.
-/
module

public import proofs.«01_k».proof.Proof.Block

@[expose] public section

noncomputable section

namespace Cert.Proof.Sums

open Cert.Proof.Column Cert.Proof.Block

/-- A sum over the flat places of an `A × B` table is the double sum. -/
theorem sum_flat (A B : ℕ) (f : ℕ → ℕ → EReal) :
    ∑ k : Fin (A * B), f (k.val / B) (k.val % B) = ∑ a ∈ Finset.range A, ∑ b ∈ Finset.range B, f a b := by
  rw [← finProdFinEquiv.sum_comp, Fintype.sum_prod_type, Finset.sum_range]
  refine Finset.sum_congr rfl fun a _ => ?_
  rw [Finset.sum_range]
  refine Finset.sum_congr rfl fun b _ => ?_
  have hB : 0 < B := b.pos
  show f ((b.val + B * a.val) / B) ((b.val + B * a.val) % B) = _
  rw [Nat.add_mul_div_left _ _ hB, Nat.div_eq_of_lt b.isLt, Nat.add_mul_mod_self_left, Nat.mod_eq_of_lt b.isLt, zero_add]

/-- Of the places `c + m` with `m` below `M`, at most one is `n`. -/
theorem sum_place (M c n : ℕ) (g : ℕ → EReal) (hg : ∀ m, M ≤ m → g m = 0) :
    ∑ m ∈ Finset.range M, (if c + m = n then g m else 0) = if c ≤ n then g (n - c) else 0 := by
  by_cases h : c ≤ n
  · rw [if_pos h]
    rw [Finset.sum_congr rfl (g := fun m => if m = n - c then g m else 0) fun m _ => if_congr (by omega) rfl rfl,
      Finset.sum_ite_eq']
    by_cases hm : n - c < M
    · rw [if_pos (Finset.mem_range.2 hm)]
    · rw [if_neg (by rwa [Finset.mem_range]), hg _ (by omega)]
  · rw [if_neg h]
    exact Finset.sum_eq_zero fun m _ => if_neg (by omega)

/-- The sum over all pairs whose places add up to `n` is the convolution. -/
theorem conv_flat (N R : ℕ → EReal) (hR : ∀ m, 513 ≤ m → R m = 0) (n : ℕ) :
    ∑ k : Fin 41040, (if k.val / 513 + k.val % 513 = n then N (k.val / 513) * R (k.val % 513) else 0) = conv N R n := by
  refine (sum_flat 80 513 fun a m => if a + m = n then N a * R m else 0).trans ?_
  refine Finset.sum_congr rfl fun a _ => ?_
  exact sum_place 513 a n (fun m => N a * R m) fun m hm => by rw [hR m hm, mul_zero]

/-- Overlap-add: sample `80 f + r` collects, from each of the eight frames ending at `f`, one sample; frames before the
    first are left out. -/
theorem overlap (C : ℕ → ℕ → EReal) (hC : ∀ t n, 592 ≤ n → C t n = 0) (f r : ℕ) (hf : f < 4000) (hr : r < 80) :
    ∑ k : Fin 2368000, (if 80 * (k.val / 592) + k.val % 592 = 80 * f + r then C (k.val / 592) (k.val % 592) else 0)
      = ∑ p : Fin 8, if p.val ≤ f then C (f - p.val) (80 * p.val + r) else 0 := by
  refine (sum_flat 4000 592 fun t n => if 80 * t + n = 80 * f + r then C t n else 0).trans ?_
  rw [Finset.sum_congr rfl fun t _ => sum_place 592 (80 * t) (80 * f + r) (C t) (hC t)]
  rw [Fin.sum_univ_eq_sum_range (fun p => if p ≤ f then C (f - p) (80 * p + r) else 0) 8]
  refine Finset.sum_bij_ne_zero (fun t _ _ => f - t) ?_ ?_ ?_ ?_
  · intro t _ h
    have h1 : 80 * t ≤ 80 * f + r := by by_contra hn; exact h (if_neg hn)
    rw [if_pos h1] at h
    have h2 : 80 * f + r - 80 * t < 592 := by by_contra hn; exact h (hC _ _ (by omega))
    exact Finset.mem_range.2 (by omega)
  · intro t _ h t' _ h' e
    have h1 : 80 * t ≤ 80 * f + r := by by_contra hn; exact h (if_neg hn)
    have h2 : 80 * t' ≤ 80 * f + r := by by_contra hn; exact h' (if_neg hn)
    omega
  · intro p _ h
    have h1 : p ≤ f := by by_contra hn; exact h (if_neg hn)
    refine ⟨f - p, Finset.mem_range.2 (by omega), ?_, by omega⟩
    rw [if_pos h1] at h
    rw [if_pos (by omega), show 80 * f + r - 80 * (f - p) = 80 * p + r by omega]
    exact h
  · intro t _ h
    have h1 : 80 * t ≤ 80 * f + r := by by_contra hn; exact h (if_neg hn)
    rw [if_pos h1, if_pos (by omega), show f - (f - t) = t by omega, show 80 * (f - t) + r = 80 * f + r - 80 * t by omega]

/-- A real factor that is not negative distributes over a finite sum of extended reals. -/
theorem sum_mul_real {ι : Type} (s : Finset ι) (g : ι → EReal) (c : ℝ) (hc : 0 ≤ c) :
    (∑ i ∈ s, g i) * (c : EReal) = ∑ i ∈ s, g i * (c : EReal) := by
  classical
  induction s using Finset.induction_on with
  | empty => simp
  | insert i s hi ih =>
    rw [Finset.sum_insert hi, Finset.sum_insert hi,
      EReal.right_distrib_of_nonneg_of_ne_top (EReal.coe_nonneg.2 hc) (EReal.coe_ne_top c), ih]

end Cert.Proof.Sums
-- ==== Proof.Equal.lean ====
/-
  The two results are equal: the filters, the noise, the convolutions, and then the overlap-add.
-/
module

public import proofs.«01_k».proof.Proof.KernelRun
public import proofs.«01_k».proof.Proof.RefValue
public import proofs.«01_k».proof.Proof.Sums

@[expose] public section

set_option maxRecDepth 16384

noncomputable section

namespace Cert.Proof.Equal

open Idealize.ShloMosaic Cert.KernelIdeal
open Cert.Proof.Column Cert.Proof.Block Cert.Proof.Host Cert.Proof.Scalars Cert.Proof.KernelRun Cert.Proof.RefValue

/-- Rolling the cosine by 256 places is shifting its argument: the two arguments differ by a whole number of turns. -/
theorem cos_roll (n k : ℕ) (hn : n < 513) :
    Real.cos (2 * Real.pi * (((n + 257) % 513 * k : ℕ) : ℝ) / 513) = Real.cos (2 * Real.pi / 513 * (((n : ℝ) - 256) * k)) := by
  by_cases h : n < 256
  · rw [Nat.mod_eq_of_lt (by omega), ← Real.cos_add_nat_mul_two_pi (2 * Real.pi / 513 * (((n : ℝ) - 256) * k)) k]
    congr 1
    push_cast
    ring
  · obtain ⟨j, rfl⟩ : ∃ j, n = 256 + j := ⟨n - 256, by omega⟩
    rw [show (256 + j + 257) % 513 = j by omega]
    congr 1
    push_cast
    ring

/-- The table at band zero; -/
theorem table_zero (n : ℕ) : table n 0 = 1 / 513 * hann n := by
  unfold table weight; simp

/-- and at a later band, by the reference's cosine. -/
theorem table_succ (n k : ℕ) (hn : n < 513) :
    table n (k + 1) = Real.cos (2 * Real.pi * (((n + 257) % 513 * (k + 1) : ℕ) : ℝ) / 513) * (2 * (1 / 513 * hann n)) := by
  rw [cos_roll n (k + 1) hn]
  unfold table weight
  rw [if_neg (by omega)]
  push_cast
  ring

/-- The reference's filter of a frame is the kernel's. -/
theorem firR_eq (x : Vec Ideal S32x4000x257 .f32) (b : Fin 32) (t : Fin 4000) (n : Fin 513) :
    firR x (ix3 b t n) = filt x b (t.val + 8) n.val := by
  have hh := hann_nonneg n.val
  unfold filt
  rw [firR_apply, zeroPhase_apply, if_pos n.isLt, Ideal.div_coe (by norm_num), mul_assoc, ← EReal.coe_mul,
    EReal.right_distrib_of_nonneg_of_ne_top (EReal.coe_nonneg.2 (by positivity)) (EReal.coe_ne_top _), Fin.sum_univ_succ (n := 256)]
  congr 1
  · rw [padded_of_ge _ _ _ _ t rfl, mul_comm]
    show _ = ((table n.val 0 : ℝ) : EReal) * _
    rw [table_zero]
  · rw [mul_comm ((2 : ℝ) : EReal), mul_assoc, ← EReal.coe_mul, Sums.sum_mul_real _ _ _ (by positivity)]
    refine Finset.sum_congr rfl fun k _ => ?_
    rw [padded_of_ge _ _ _ _ t rfl, mul_assoc, ← EReal.coe_mul, mul_comm]
    show _ = ((table n.val (k.val + 1) : ℝ) : EReal) * _
    rw [table_succ _ _ n.isLt]

/-- The reference's noise is the kernel's. -/
theorem noiseR_eq (u : Vec Ideal S32x4000x80 .f32) (b : Fin 32) (t : Fin 4000) (a : Fin 80) :
    noiseR u (ix3 b t a) = noise u b (t.val + 8) a.val := by
  unfold noise
  rw [noiseR_apply, dif_pos a.isLt, padded_of_ge _ _ _ _ t rfl]

/-- The filter has 513 taps: it is zero from there on. -/
theorem filt_zero (x : Vec Ideal S32x4000x257 .f32) (b : Fin 32) (g n : ℕ) (hn : 513 ≤ n) : filt x b g n = 0 := by
  unfold filt; rw [if_neg (by omega)]

/-- The filter of a frame before the first is zero. -/
theorem filt_before (x : Vec Ideal S32x4000x257 .f32) (b : Fin 32) (g n : ℕ) (hg : g < 8) : filt x b g n = 0 := by
  unfold filt
  split
  · refine Finset.sum_eq_zero fun k _ => ?_
    unfold padded
    rw [dif_neg (by omega), mul_zero]
  · rfl

/-- The reference's filtered frame is the convolution of the kernel's noise and filter. -/
theorem filteredR_eq (x : Vec Ideal S32x4000x257 .f32) (u : Vec Ideal S32x4000x80 .f32) (b : Fin 32) (t : Fin 4000) (n : Fin 592) :
    filteredR x u (ix3 b t n) = conv (noise u b (t.val + 8)) (filt x b (t.val + 8)) n.val := by
  rw [filteredR_apply]
  simp only [noiseR_eq, firR_eq]
  exact Sums.conv_flat _ _ (fun m hm => filt_zero x b _ m hm) n.val

/-- The two results are equal. -/
theorem out_eq (x : Vec Ideal S32x4000x257 .f32) (u : Vec Ideal S32x4000x80 .f32) : outR x u = result x u := by
  funext i
  obtain ⟨b, s, rfl⟩ : ∃ (b : Fin 32) (s : Fin 320000), i = ix2 b s :=
    ⟨i 0, i 1, by funext a; match a with | ⟨0, _⟩ => rfl | ⟨1, _⟩ => rfl⟩
  rw [outR_apply]
  simp only [filteredR_eq]
  show _ = sample x u b (s.val / 80) (s.val % 80)
  have hs : s.val = 80 * (s.val / 80) + s.val % 80 := by omega
  have hlt := s.isLt
  have ho := Sums.overlap (fun t n => conv (noise u b (t + 8)) (filt x b (t + 8)) n)
    (fun t n hn => conv_zero _ _ (fun m hm => filt_zero x b _ m hm) n hn) (s.val / 80) (s.val % 80) (by omega) (by omega)
  rw [← hs] at ho
  refine ho.trans (Finset.sum_congr rfl fun p _ => ?_)
  have hp := p.isLt
  by_cases h : p.val ≤ s.val / 80
  · rw [if_pos h, show s.val / 80 - p.val + 8 = s.val / 80 + (8 - p.val) by omega]
  · rw [if_neg h]
    refine (Finset.sum_eq_zero fun a _ => ?_).symm
    simp only [tap, sh, filt_before x b (s.val / 80 + (8 - p.val)) _ (by omega), mul_zero, ite_self]

end Cert.Proof.Equal
-- ==== Proof.lean ====
/-
  The claim: the three frames, the idealization of the kernel, and the equality of the kernel's result with the
  reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates without a fault, its arguments unchanged and every semaphore counter back at zero. -/
theorem reference_frame : Cert.quiescent_ReferenceIdeal (hReferenceIdeal := Cert.ReferenceIdeal.Gen.facts) :=
  fun m ρ _ => (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

/-- On equal arguments the kernel and the reference both run and end with equal results, element by element over the
    extended reals, and with their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => KernelRun.result (Host.argH m c) (Host.argU m c), KernelRun.run m g, ?_⟩
  refine (θ_run Cert.ReferenceIdeal.defs _ _).mono (fun _ h c => ⟨(h c).1.trans ?_, (h c).2⟩)
    (Cert.ReferenceIdeal.Value.run (F := Ideal) m' g')
  rw [RefValue.res_eq, Equal.out_eq, (hagree c).1, (hagree c).2]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
